-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 256, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 256, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x16384 : Shape := ⟨2, ![768, 16384]⟩
abbrev S2x512x8x64 : Shape := ⟨4, ![2, 512, 8, 64]⟩
abbrev S16384x768 : Shape := ⟨2, ![16384, 768]⟩
abbrev S_ : Shape := ⟨0, ![]⟩
abbrev S768x512 : Shape := ⟨2, ![768, 512]⟩
abbrev S512x768 : Shape := ⟨2, ![512, 768]⟩
abbrev S1024x768 : Shape := ⟨2, ![1024, 768]⟩
abbrev S2x8x64x512 : Shape := ⟨4, ![2, 8, 64, 512]⟩
abbrev S16x64x512 : Shape := ⟨3, ![16, 64, 512]⟩
abbrev S2x8x512x64 : Shape := ⟨4, ![2, 8, 512, 64]⟩
abbrev S16x512x64 : Shape := ⟨3, ![16, 512, 64]⟩
abbrev S992x768 : Shape := ⟨2, ![992, 768]⟩
abbrev S10 : Shape := ⟨1, ![10]⟩
abbrev S512x512 : Shape := ⟨2, ![512, 512]⟩
abbrev S512x64 : Shape := ⟨2, ![512, 64]⟩
abbrev S1x64x512 : Shape := ⟨3, ![1, 64, 512]⟩
abbrev S64x512 : Shape := ⟨2, ![64, 512]⟩
abbrev S512 : Shape := ⟨1, ![512]⟩
abbrev S512x1 : Shape := ⟨2, ![512, 1]⟩
abbrev S1x512x64 : Shape := ⟨3, ![1, 512, 64]⟩
abbrev S64x768 : Shape := ⟨2, ![64, 768]⟩
abbrev S1 : Shape := ⟨1, ![1]⟩
abbrev S256x768 : Shape := ⟨2, ![256, 768]⟩
abbrev S128x768 : Shape := ⟨2, ![128, 768]⟩
abbrev S32x768 : Shape := ⟨2, ![32, 768]⟩

abbrev nBuf : Space → Nat
  | .hbm => 36
  | .vmem => 9
  | .smem => 0
  | _ => 0

abbrev bufTy : (tb : Table) → Fin (tcTables nBuf tb) → BufTy
  | .hbm, ⟨0, _⟩ => ⟨S2x512x768, .f32⟩
  | .hbm, ⟨1, _⟩ => ⟨S768x16384, .f32⟩
  | .hbm, ⟨2, _⟩ => ⟨S2x512x8x64, .f32⟩
  | .hbm, ⟨3, _⟩ => ⟨S2x512x8x64, .f32⟩
  | .hbm, ⟨4, _⟩ => ⟨S16384x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S768x512, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S512x768, .f32⟩
  | .hbm, ⟨29, _⟩ => ⟨S1024x768, .f32⟩
  | .hbm, ⟨30, _⟩ => ⟨S2x8x64x512, .f32⟩
  | .hbm, ⟨31, _⟩ => ⟨S16x64x512, .f32⟩
  | .hbm, ⟨32, _⟩ => ⟨S2x8x512x64, .f32⟩
  | .hbm, ⟨33, _⟩ => ⟨S16x512x64, .f32⟩
  | .hbm, ⟨34, _⟩ => ⟨S1024x768, .f32⟩
  | .hbm, ⟨35, _⟩ => ⟨S2x512x768, .f32⟩
  | .local _ .vmem, ⟨0, _⟩ => ⟨S1024x768, .f32⟩
  | .local _ .vmem, ⟨1, _⟩ => ⟨S768x512, .f32⟩
  | .local _ .vmem, ⟨2, _⟩ => ⟨S16x64x512, .f32⟩
  | .local _ .vmem, ⟨3, _⟩ => ⟨S16x512x64, .f32⟩
  | .local _ .vmem, ⟨4, _⟩ => ⟨S512x768, .f32⟩
  | .local _ .vmem, ⟨5, _⟩ => ⟨S1024x768, .f32⟩
  | .local _ .vmem, ⟨6, _⟩ => ⟨S992x768, .bf16⟩
  | .local _ .vmem, ⟨7, _⟩ => ⟨S992x768, .bf16⟩
  | .local _ .vmem, ⟨8, _⟩ => ⟨S992x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_275 : BitVec 32 := 1#32
  let c1_i32_272 : BitVec 32 := 1#32
  let v501 : BitVec 32 := Scalar.divsi v2 c1_i32_272
  let c2_i32_273 : BitVec 32 := 2#32
  let v502 : BitVec 32 := Scalar.remsi v501 c2_i32_273
  let v506 : BitVec 32 := Scalar.subi c1_i32_275 v502
  let c512_i32_276 : BitVec 32 := 512#32
  let v507 : BitVec 32 := Scalar.muli v506 c512_i32_276
  let v508 : BitVec 32 := Scalar.addi v500 v507
  let v509 : Index := Scalar.indexCast v508
  let c0_277 : Index := 0#32
  ![v509.toNat, 0]
def k0_dev6 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_274 : BitVec 32 := 1#32
  let v503 : BitVec 32 := Scalar.xori v2 c1_i32_274
  let c1_i32_282 : BitVec 32 := 1#32
  let v516 : BitVec 32 := Scalar.muli v503 c1_i32_282
  let v517 : BitVec 32 := Scalar.addi c0_i32_283 v516
  v517.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let v530 : Index := Scalar.indexCast v505
  let c0_296 : Index := 0#32
  ![v530.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c1_i32_303 : BitVec 32 := 1#32
  let c2_i32_300 : BitVec 32 := 2#32
  let v538 : BitVec 32 := Scalar.divsi v2 c2_i32_300
  let c2_i32_301 : BitVec 32 := 2#32
  let v539 : BitVec 32 := Scalar.remsi v538 c2_i32_301
  let v543 : BitVec 32 := Scalar.subi c1_i32_303 v539
  let c256_i32_304 : BitVec 32 := 256#32
  let v544 : BitVec 32 := Scalar.muli v543 c256_i32_304
  let v545 : BitVec 32 := Scalar.addi v505 v544
  let v546 : Index := Scalar.indexCast v545
  let c0_305 : Index := 0#32
  ![v546.toNat, 0]
def k0_dev7 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_302 : BitVec 32 := 2#32
  let v540 : BitVec 32 := Scalar.xori v2 c2_i32_302
  let c1_i32_310 : BitVec 32 := 1#32
  let v553 : BitVec 32 := Scalar.muli v540 c1_i32_310
  let v554 : BitVec 32 := Scalar.addi c0_i32_311 v553
  v554.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let v567 : Index := Scalar.indexCast v542
  let c0_324 : Index := 0#32
  ![v567.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c1_i32_331 : BitVec 32 := 1#32
  let c4_i32_328 : BitVec 32 := 4#32
  let v575 : BitVec 32 := Scalar.divsi v2 c4_i32_328
  let c2_i32_329 : BitVec 32 := 2#32
  let v576 : BitVec 32 := Scalar.remsi v575 c2_i32_329
  let v580 : BitVec 32 := Scalar.subi c1_i32_331 v576
  let c128_i32_332 : BitVec 32 := 128#32
  let v581 : BitVec 32 := Scalar.muli v580 c128_i32_332
  let v582 : BitVec 32 := Scalar.addi v542 v581
  let v583 : Index := Scalar.indexCast v582
  let c0_333 : Index := 0#32
  ![v583.toNat, 0]
def k0_dev8 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_330 : BitVec 32 := 4#32
  let v577 : BitVec 32 := Scalar.xori v2 c4_i32_330
  let c1_i32_337 : BitVec 32 := 1#32
  let v590 : BitVec 32 := Scalar.muli v577 c1_i32_337
  let v591 : BitVec 32 := Scalar.addi c0_i32_338 v590
  v591.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let v604 : Index := Scalar.indexCast v579
  let c0_350 : Index := 0#32
  ![v604.toNat, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c1_i32_358 : BitVec 32 := 1#32
  let c8_i32_354 : BitVec 32 := 8#32
  let v612 : BitVec 32 := Scalar.divsi v2 c8_i32_354
  let c2_i32_355 : BitVec 32 := 2#32
  let v613 : BitVec 32 := Scalar.remsi v612 c2_i32_355
  let v617 : BitVec 32 := Scalar.subi c1_i32_358 v613
  let c64_i32_359 : BitVec 32 := 64#32
  let v618 : BitVec 32 := Scalar.muli v617 c64_i32_359
  let v619 : BitVec 32 := Scalar.addi v579 v618
  let v620 : Index := Scalar.indexCast v619
  let c0_360 : Index := 0#32
  ![v620.toNat, 0]
def k0_dev9 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_356 : BitVec 32 := 8#32
  let v614 : BitVec 32 := Scalar.xori v2 c8_i32_356
  let c1_i32_363 : BitVec 32 := 1#32
  let v627 : BitVec 32 := Scalar.muli v614 c1_i32_363
  let v628 : BitVec 32 := Scalar.addi c0_i32_364 v627
  v628.toNat
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let v641 : Index := Scalar.indexCast v616
  let c0_376 : Index := 0#32
  ![v641.toNat, 0]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let c1_i32_384 : BitVec 32 := 1#32
  let c16_i32_380 : BitVec 32 := 16#32
  let v649 : BitVec 32 := Scalar.divsi v2 c16_i32_380
  let c2_i32_381 : BitVec 32 := 2#32
  let v650 : BitVec 32 := Scalar.remsi v649 c2_i32_381
  let v654 : BitVec 32 := Scalar.subi c1_i32_384 v650
  let c32_i32_385 : BitVec 32 := 32#32
  let v655 : BitVec 32 := Scalar.muli v654 c32_i32_385
  let v656 : BitVec 32 := Scalar.addi v616 v655
  let v657 : Index := Scalar.indexCast v656
  let c0_386 : Index := 0#32
  ![v657.toNat, 0]
def k0_dev10 (d0 : Dev nD) : Nat :=
  let c0_i32_391 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_382 : BitVec 32 := 16#32
  let v651 : BitVec 32 := Scalar.xori v2 c16_i32_382
  let c1_i32_390 : BitVec 32 := 1#32
  let v664 : BitVec 32 := Scalar.muli v651 c1_i32_390
  let v665 : BitVec 32 := Scalar.addi c0_i32_391 v664
  v665.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let c16_i32_380 : BitVec 32 := 16#32
  let v649 : BitVec 32 := Scalar.divsi v2 c16_i32_380
  let c2_i32_381 : BitVec 32 := 2#32
  let v650 : BitVec 32 := Scalar.remsi v649 c2_i32_381
  let c32_i32_383 : BitVec 32 := 32#32
  let v652 : BitVec 32 := Scalar.muli v650 c32_i32_383
  let v653 : BitVec 32 := Scalar.addi v616 v652
  let v678 : Index := Scalar.indexCast v653
  let c0_403 : Index := 0#32
  ![v678.toNat, 0]
def k0_dev11 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_444 : BitVec 32 := 16#32
  let v708 : BitVec 32 := Scalar.xori v2 c16_i32_444
  let c1_i32_450 : BitVec 32 := 1#32
  let v716 : BitVec 32 := Scalar.muli v708 c1_i32_450
  let v717 : BitVec 32 := Scalar.addi c0_i32_451 v716
  v717.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let c16_i32_380 : BitVec 32 := 16#32
  let v649 : BitVec 32 := Scalar.divsi v2 c16_i32_380
  let c2_i32_381 : BitVec 32 := 2#32
  let v650 : BitVec 32 := Scalar.remsi v649 c2_i32_381
  let c32_i32_383 : BitVec 32 := 32#32
  let v652 : BitVec 32 := Scalar.muli v650 c32_i32_383
  let v653 : BitVec 32 := Scalar.addi v616 v652
  let c1_i32_465 : BitVec 32 := 1#32
  let c2_i32_464 : BitVec 32 := 2#32
  let c16_i32_442 : BitVec 32 := 16#32
  let v706 : BitVec 32 := Scalar.divsi v2 c16_i32_442
  let c2_i32_443 : BitVec 32 := 2#32
  let v707 : BitVec 32 := Scalar.remsi v706 c2_i32_443
  let v730 : BitVec 32 := Scalar.muli c2_i32_464 v707
  let v731 : BitVec 32 := Scalar.subi c1_i32_465 v730
  let c32_i32_466 : BitVec 32 := 32#32
  let v732 : BitVec 32 := Scalar.muli v731 c32_i32_466
  let v733 : BitVec 32 := Scalar.addi v653 v732
  let v736 : Index := Scalar.indexCast v733
  let c0_469 : Index := 0#32
  ![v736.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let c16_i32_380 : BitVec 32 := 16#32
  let v649 : BitVec 32 := Scalar.divsi v2 c16_i32_380
  let c2_i32_381 : BitVec 32 := 2#32
  let v650 : BitVec 32 := Scalar.remsi v649 c2_i32_381
  let c32_i32_383 : BitVec 32 := 32#32
  let v652 : BitVec 32 := Scalar.muli v650 c32_i32_383
  let v653 : BitVec 32 := Scalar.addi v616 v652
  let c16_i32_442 : BitVec 32 := 16#32
  let v706 : BitVec 32 := Scalar.divsi v2 c16_i32_442
  let c2_i32_443 : BitVec 32 := 2#32
  let v707 : BitVec 32 := Scalar.remsi v706 c2_i32_443
  let c32_i32_470 : BitVec 32 := 32#32
  let v738 : BitVec 32 := Scalar.muli v707 c32_i32_470
  let v739 : BitVec 32 := Scalar.subi v653 v738
  let v743 : Index := Scalar.indexCast v739
  let c0_474 : Index := 0#32
  ![v743.toNat, 0]
def k0_dev12 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_473 : BitVec 32 := 8#32
  let v742 : BitVec 32 := Scalar.xori v2 c8_i32_473
  let c1_i32_477 : BitVec 32 := 1#32
  let v750 : BitVec 32 := Scalar.muli v742 c1_i32_477
  let v751 : BitVec 32 := Scalar.addi c0_i32_478 v750
  v751.toNat
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let c16_i32_380 : BitVec 32 := 16#32
  let v649 : BitVec 32 := Scalar.divsi v2 c16_i32_380
  let c2_i32_381 : BitVec 32 := 2#32
  let v650 : BitVec 32 := Scalar.remsi v649 c2_i32_381
  let c32_i32_383 : BitVec 32 := 32#32
  let v652 : BitVec 32 := Scalar.muli v650 c32_i32_383
  let v653 : BitVec 32 := Scalar.addi v616 v652
  let c16_i32_442 : BitVec 32 := 16#32
  let v706 : BitVec 32 := Scalar.divsi v2 c16_i32_442
  let c2_i32_443 : BitVec 32 := 2#32
  let v707 : BitVec 32 := Scalar.remsi v706 c2_i32_443
  let c32_i32_470 : BitVec 32 := 32#32
  let v738 : BitVec 32 := Scalar.muli v707 c32_i32_470
  let v739 : BitVec 32 := Scalar.subi v653 v738
  let c1_i32_492 : BitVec 32 := 1#32
  let c2_i32_491 : BitVec 32 := 2#32
  let c8_i32_471 : BitVec 32 := 8#32
  let v740 : BitVec 32 := Scalar.divsi v2 c8_i32_471
  let c2_i32_472 : BitVec 32 := 2#32
  let v741 : BitVec 32 := Scalar.remsi v740 c2_i32_472
  let v764 : BitVec 32 := Scalar.muli c2_i32_491 v741
  let v765 : BitVec 32 := Scalar.subi c1_i32_492 v764
  let c64_i32_493 : BitVec 32 := 64#32
  let v766 : BitVec 32 := Scalar.muli v765 c64_i32_493
  let v767 : BitVec 32 := Scalar.addi v739 v766
  let v770 : Index := Scalar.indexCast v767
  let c0_496 : Index := 0#32
  ![v770.toNat, 0]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let c16_i32_380 : BitVec 32 := 16#32
  let v649 : BitVec 32 := Scalar.divsi v2 c16_i32_380
  let c2_i32_381 : BitVec 32 := 2#32
  let v650 : BitVec 32 := Scalar.remsi v649 c2_i32_381
  let c32_i32_383 : BitVec 32 := 32#32
  let v652 : BitVec 32 := Scalar.muli v650 c32_i32_383
  let v653 : BitVec 32 := Scalar.addi v616 v652
  let c16_i32_442 : BitVec 32 := 16#32
  let v706 : BitVec 32 := Scalar.divsi v2 c16_i32_442
  let c2_i32_443 : BitVec 32 := 2#32
  let v707 : BitVec 32 := Scalar.remsi v706 c2_i32_443
  let c32_i32_470 : BitVec 32 := 32#32
  let v738 : BitVec 32 := Scalar.muli v707 c32_i32_470
  let v739 : BitVec 32 := Scalar.subi v653 v738
  let c8_i32_471 : BitVec 32 := 8#32
  let v740 : BitVec 32 := Scalar.divsi v2 c8_i32_471
  let c2_i32_472 : BitVec 32 := 2#32
  let v741 : BitVec 32 := Scalar.remsi v740 c2_i32_472
  let c64_i32_497 : BitVec 32 := 64#32
  let v772 : BitVec 32 := Scalar.muli v741 c64_i32_497
  let v773 : BitVec 32 := Scalar.subi v739 v772
  let v777 : Index := Scalar.indexCast v773
  let c0_501 : Index := 0#32
  ![v777.toNat, 0]
def k0_dev13 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_500 : BitVec 32 := 4#32
  let v776 : BitVec 32 := Scalar.xori v2 c4_i32_500
  let c1_i32_504 : BitVec 32 := 1#32
  let v784 : BitVec 32 := Scalar.muli v776 c1_i32_504
  let v785 : BitVec 32 := Scalar.addi c0_i32_505 v784
  v785.toNat
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let c16_i32_380 : BitVec 32 := 16#32
  let v649 : BitVec 32 := Scalar.divsi v2 c16_i32_380
  let c2_i32_381 : BitVec 32 := 2#32
  let v650 : BitVec 32 := Scalar.remsi v649 c2_i32_381
  let c32_i32_383 : BitVec 32 := 32#32
  let v652 : BitVec 32 := Scalar.muli v650 c32_i32_383
  let v653 : BitVec 32 := Scalar.addi v616 v652
  let c16_i32_442 : BitVec 32 := 16#32
  let v706 : BitVec 32 := Scalar.divsi v2 c16_i32_442
  let c2_i32_443 : BitVec 32 := 2#32
  let v707 : BitVec 32 := Scalar.remsi v706 c2_i32_443
  let c32_i32_470 : BitVec 32 := 32#32
  let v738 : BitVec 32 := Scalar.muli v707 c32_i32_470
  let v739 : BitVec 32 := Scalar.subi v653 v738
  let c8_i32_471 : BitVec 32 := 8#32
  let v740 : BitVec 32 := Scalar.divsi v2 c8_i32_471
  let c2_i32_472 : BitVec 32 := 2#32
  let v741 : BitVec 32 := Scalar.remsi v740 c2_i32_472
  let c64_i32_497 : BitVec 32 := 64#32
  let v772 : BitVec 32 := Scalar.muli v741 c64_i32_497
  let v773 : BitVec 32 := Scalar.subi v739 v772
  let c1_i32_518 : BitVec 32 := 1#32
  let c2_i32_517 : BitVec 32 := 2#32
  let c4_i32_498 : BitVec 32 := 4#32
  let v774 : BitVec 32 := Scalar.divsi v2 c4_i32_498
  let c2_i32_499 : BitVec 32 := 2#32
  let v775 : BitVec 32 := Scalar.remsi v774 c2_i32_499
  let v798 : BitVec 32 := Scalar.muli c2_i32_517 v775
  let v799 : BitVec 32 := Scalar.subi c1_i32_518 v798
  let c128_i32_519 : BitVec 32 := 128#32
  let v800 : BitVec 32 := Scalar.muli v799 c128_i32_519
  let v801 : BitVec 32 := Scalar.addi v773 v800
  let v804 : Index := Scalar.indexCast v801
  let c0_522 : Index := 0#32
  ![v804.toNat, 0]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let c16_i32_380 : BitVec 32 := 16#32
  let v649 : BitVec 32 := Scalar.divsi v2 c16_i32_380
  let c2_i32_381 : BitVec 32 := 2#32
  let v650 : BitVec 32 := Scalar.remsi v649 c2_i32_381
  let c32_i32_383 : BitVec 32 := 32#32
  let v652 : BitVec 32 := Scalar.muli v650 c32_i32_383
  let v653 : BitVec 32 := Scalar.addi v616 v652
  let c16_i32_442 : BitVec 32 := 16#32
  let v706 : BitVec 32 := Scalar.divsi v2 c16_i32_442
  let c2_i32_443 : BitVec 32 := 2#32
  let v707 : BitVec 32 := Scalar.remsi v706 c2_i32_443
  let c32_i32_470 : BitVec 32 := 32#32
  let v738 : BitVec 32 := Scalar.muli v707 c32_i32_470
  let v739 : BitVec 32 := Scalar.subi v653 v738
  let c8_i32_471 : BitVec 32 := 8#32
  let v740 : BitVec 32 := Scalar.divsi v2 c8_i32_471
  let c2_i32_472 : BitVec 32 := 2#32
  let v741 : BitVec 32 := Scalar.remsi v740 c2_i32_472
  let c64_i32_497 : BitVec 32 := 64#32
  let v772 : BitVec 32 := Scalar.muli v741 c64_i32_497
  let v773 : BitVec 32 := Scalar.subi v739 v772
  let c4_i32_498 : BitVec 32 := 4#32
  let v774 : BitVec 32 := Scalar.divsi v2 c4_i32_498
  let c2_i32_499 : BitVec 32 := 2#32
  let v775 : BitVec 32 := Scalar.remsi v774 c2_i32_499
  let c128_i32_523 : BitVec 32 := 128#32
  let v806 : BitVec 32 := Scalar.muli v775 c128_i32_523
  let v807 : BitVec 32 := Scalar.subi v773 v806
  let v811 : Index := Scalar.indexCast v807
  let c0_527 : Index := 0#32
  ![v811.toNat, 0]
def k0_dev14 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_526 : BitVec 32 := 2#32
  let v810 : BitVec 32 := Scalar.xori v2 c2_i32_526
  let c1_i32_531 : BitVec 32 := 1#32
  let v818 : BitVec 32 := Scalar.muli v810 c1_i32_531
  let v819 : BitVec 32 := Scalar.addi c0_i32_532 v818
  v819.toNat
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let c16_i32_380 : BitVec 32 := 16#32
  let v649 : BitVec 32 := Scalar.divsi v2 c16_i32_380
  let c2_i32_381 : BitVec 32 := 2#32
  let v650 : BitVec 32 := Scalar.remsi v649 c2_i32_381
  let c32_i32_383 : BitVec 32 := 32#32
  let v652 : BitVec 32 := Scalar.muli v650 c32_i32_383
  let v653 : BitVec 32 := Scalar.addi v616 v652
  let c16_i32_442 : BitVec 32 := 16#32
  let v706 : BitVec 32 := Scalar.divsi v2 c16_i32_442
  let c2_i32_443 : BitVec 32 := 2#32
  let v707 : BitVec 32 := Scalar.remsi v706 c2_i32_443
  let c32_i32_470 : BitVec 32 := 32#32
  let v738 : BitVec 32 := Scalar.muli v707 c32_i32_470
  let v739 : BitVec 32 := Scalar.subi v653 v738
  let c8_i32_471 : BitVec 32 := 8#32
  let v740 : BitVec 32 := Scalar.divsi v2 c8_i32_471
  let c2_i32_472 : BitVec 32 := 2#32
  let v741 : BitVec 32 := Scalar.remsi v740 c2_i32_472
  let c64_i32_497 : BitVec 32 := 64#32
  let v772 : BitVec 32 := Scalar.muli v741 c64_i32_497
  let v773 : BitVec 32 := Scalar.subi v739 v772
  let c4_i32_498 : BitVec 32 := 4#32
  let v774 : BitVec 32 := Scalar.divsi v2 c4_i32_498
  let c2_i32_499 : BitVec 32 := 2#32
  let v775 : BitVec 32 := Scalar.remsi v774 c2_i32_499
  let c128_i32_523 : BitVec 32 := 128#32
  let v806 : BitVec 32 := Scalar.muli v775 c128_i32_523
  let v807 : BitVec 32 := Scalar.subi v773 v806
  let c1_i32_545 : BitVec 32 := 1#32
  let c2_i32_544 : BitVec 32 := 2#32
  let c2_i32_524 : BitVec 32 := 2#32
  let v808 : BitVec 32 := Scalar.divsi v2 c2_i32_524
  let c2_i32_525 : BitVec 32 := 2#32
  let v809 : BitVec 32 := Scalar.remsi v808 c2_i32_525
  let v832 : BitVec 32 := Scalar.muli c2_i32_544 v809
  let v833 : BitVec 32 := Scalar.subi c1_i32_545 v832
  let c256_i32_546 : BitVec 32 := 256#32
  let v834 : BitVec 32 := Scalar.muli v833 c256_i32_546
  let v835 : BitVec 32 := Scalar.addi v807 v834
  let v838 : Index := Scalar.indexCast v835
  let c0_549 : Index := 0#32
  ![v838.toNat, 0]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let c16_i32_380 : BitVec 32 := 16#32
  let v649 : BitVec 32 := Scalar.divsi v2 c16_i32_380
  let c2_i32_381 : BitVec 32 := 2#32
  let v650 : BitVec 32 := Scalar.remsi v649 c2_i32_381
  let c32_i32_383 : BitVec 32 := 32#32
  let v652 : BitVec 32 := Scalar.muli v650 c32_i32_383
  let v653 : BitVec 32 := Scalar.addi v616 v652
  let c16_i32_442 : BitVec 32 := 16#32
  let v706 : BitVec 32 := Scalar.divsi v2 c16_i32_442
  let c2_i32_443 : BitVec 32 := 2#32
  let v707 : BitVec 32 := Scalar.remsi v706 c2_i32_443
  let c32_i32_470 : BitVec 32 := 32#32
  let v738 : BitVec 32 := Scalar.muli v707 c32_i32_470
  let v739 : BitVec 32 := Scalar.subi v653 v738
  let c8_i32_471 : BitVec 32 := 8#32
  let v740 : BitVec 32 := Scalar.divsi v2 c8_i32_471
  let c2_i32_472 : BitVec 32 := 2#32
  let v741 : BitVec 32 := Scalar.remsi v740 c2_i32_472
  let c64_i32_497 : BitVec 32 := 64#32
  let v772 : BitVec 32 := Scalar.muli v741 c64_i32_497
  let v773 : BitVec 32 := Scalar.subi v739 v772
  let c4_i32_498 : BitVec 32 := 4#32
  let v774 : BitVec 32 := Scalar.divsi v2 c4_i32_498
  let c2_i32_499 : BitVec 32 := 2#32
  let v775 : BitVec 32 := Scalar.remsi v774 c2_i32_499
  let c128_i32_523 : BitVec 32 := 128#32
  let v806 : BitVec 32 := Scalar.muli v775 c128_i32_523
  let v807 : BitVec 32 := Scalar.subi v773 v806
  let c2_i32_524 : BitVec 32 := 2#32
  let v808 : BitVec 32 := Scalar.divsi v2 c2_i32_524
  let c2_i32_525 : BitVec 32 := 2#32
  let v809 : BitVec 32 := Scalar.remsi v808 c2_i32_525
  let c256_i32_550 : BitVec 32 := 256#32
  let v840 : BitVec 32 := Scalar.muli v809 c256_i32_550
  let v841 : BitVec 32 := Scalar.subi v807 v840
  let v845 : Index := Scalar.indexCast v841
  let c0_554 : Index := 0#32
  ![v845.toNat, 0]
def k0_dev15 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_553 : BitVec 32 := 1#32
  let v844 : BitVec 32 := Scalar.xori v2 c1_i32_553
  let c1_i32_557 : BitVec 32 := 1#32
  let v852 : BitVec 32 := Scalar.muli v844 c1_i32_557
  let v853 : BitVec 32 := Scalar.addi c0_i32_558 v852
  v853.toNat
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_271 : BitVec 32 := 0#32
  let v500 : BitVec 32 := Scalar.muli v2 c0_i32_271
  let c1_i32_272 : BitVec 32 := 1#32
  let v501 : BitVec 32 := Scalar.divsi v2 c1_i32_272
  let c2_i32_273 : BitVec 32 := 2#32
  let v502 : BitVec 32 := Scalar.remsi v501 c2_i32_273
  let c512_i32 : BitVec 32 := 512#32
  let v504 : BitVec 32 := Scalar.muli v502 c512_i32
  let v505 : BitVec 32 := Scalar.addi v500 v504
  let c2_i32_300 : BitVec 32 := 2#32
  let v538 : BitVec 32 := Scalar.divsi v2 c2_i32_300
  let c2_i32_301 : BitVec 32 := 2#32
  let v539 : BitVec 32 := Scalar.remsi v538 c2_i32_301
  let c256_i32 : BitVec 32 := 256#32
  let v541 : BitVec 32 := Scalar.muli v539 c256_i32
  let v542 : BitVec 32 := Scalar.addi v505 v541
  let c4_i32_328 : BitVec 32 := 4#32
  let v575 : BitVec 32 := Scalar.divsi v2 c4_i32_328
  let c2_i32_329 : BitVec 32 := 2#32
  let v576 : BitVec 32 := Scalar.remsi v575 c2_i32_329
  let c128_i32 : BitVec 32 := 128#32
  let v578 : BitVec 32 := Scalar.muli v576 c128_i32
  let v579 : BitVec 32 := Scalar.addi v542 v578
  let c8_i32_354 : BitVec 32 := 8#32
  let v612 : BitVec 32 := Scalar.divsi v2 c8_i32_354
  let c2_i32_355 : BitVec 32 := 2#32
  let v613 : BitVec 32 := Scalar.remsi v612 c2_i32_355
  let c64_i32_357 : BitVec 32 := 64#32
  let v615 : BitVec 32 := Scalar.muli v613 c64_i32_357
  let v616 : BitVec 32 := Scalar.addi v579 v615
  let c16_i32_380 : BitVec 32 := 16#32
  let v649 : BitVec 32 := Scalar.divsi v2 c16_i32_380
  let c2_i32_381 : BitVec 32 := 2#32
  let v650 : BitVec 32 := Scalar.remsi v649 c2_i32_381
  let c32_i32_383 : BitVec 32 := 32#32
  let v652 : BitVec 32 := Scalar.muli v650 c32_i32_383
  let v653 : BitVec 32 := Scalar.addi v616 v652
  let c16_i32_442 : BitVec 32 := 16#32
  let v706 : BitVec 32 := Scalar.divsi v2 c16_i32_442
  let c2_i32_443 : BitVec 32 := 2#32
  let v707 : BitVec 32 := Scalar.remsi v706 c2_i32_443
  let c32_i32_470 : BitVec 32 := 32#32
  let v738 : BitVec 32 := Scalar.muli v707 c32_i32_470
  let v739 : BitVec 32 := Scalar.subi v653 v738
  let c8_i32_471 : BitVec 32 := 8#32
  let v740 : BitVec 32 := Scalar.divsi v2 c8_i32_471
  let c2_i32_472 : BitVec 32 := 2#32
  let v741 : BitVec 32 := Scalar.remsi v740 c2_i32_472
  let c64_i32_497 : BitVec 32 := 64#32
  let v772 : BitVec 32 := Scalar.muli v741 c64_i32_497
  let v773 : BitVec 32 := Scalar.subi v739 v772
  let c4_i32_498 : BitVec 32 := 4#32
  let v774 : BitVec 32 := Scalar.divsi v2 c4_i32_498
  let c2_i32_499 : BitVec 32 := 2#32
  let v775 : BitVec 32 := Scalar.remsi v774 c2_i32_499
  let c128_i32_523 : BitVec 32 := 128#32
  let v806 : BitVec 32 := Scalar.muli v775 c128_i32_523
  let v807 : BitVec 32 := Scalar.subi v773 v806
  let c2_i32_524 : BitVec 32 := 2#32
  let v808 : BitVec 32 := Scalar.divsi v2 c2_i32_524
  let c2_i32_525 : BitVec 32 := 2#32
  let v809 : BitVec 32 := Scalar.remsi v808 c2_i32_525
  let c256_i32_550 : BitVec 32 := 256#32
  let v840 : BitVec 32 := Scalar.muli v809 c256_i32_550
  let v841 : BitVec 32 := Scalar.subi v807 v840
  let c1_i32_571 : BitVec 32 := 1#32
  let c2_i32_570 : BitVec 32 := 2#32
  let c1_i32_551 : BitVec 32 := 1#32
  let v842 : BitVec 32 := Scalar.divsi v2 c1_i32_551
  let c2_i32_552 : BitVec 32 := 2#32
  let v843 : BitVec 32 := Scalar.remsi v842 c2_i32_552
  let v866 : BitVec 32 := Scalar.muli c2_i32_570 v843
  let v867 : BitVec 32 := Scalar.subi c1_i32_571 v866
  let c512_i32_572 : BitVec 32 := 512#32
  let v868 : BitVec 32 := Scalar.muli v867 c512_i32_572
  let v869 : BitVec 32 := Scalar.addi v841 v868
  let v872 : Index := Scalar.indexCast v869
  let c0_575 : Index := 0#32
  ![v872.toNat, 0]
abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S2x512x16384 : Shape := ⟨3, ![2, 512, 16384]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x256x512x512 : Shape := ⟨4, ![2, 256, 512, 512]⟩
abbrev S1x1x512x512 : Shape := ⟨4, ![1, 1, 512, 512]⟩
abbrev S2x256x512 : Shape := ⟨3, ![2, 256, 512]⟩
abbrev S2x256x512x1 : Shape := ⟨4, ![2, 256, 512, 1]⟩
abbrev S1x1x512x1 : Shape := ⟨4, ![1, 1, 512, 1]⟩
abbrev S2x256x64x512 : Shape := ⟨4, ![2, 256, 64, 512]⟩

abbrev nBuf : Space → Nat
  | .hbm => 137
  | .vmem => 0
  | .smem => 0
  | _ => 0

abbrev hbmTy0_0 (i : Nat) : BufTy := match i % 128 with
  | 0 => ⟨S2x512x768, .f32⟩
  | 1 => ⟨S768x16384, .f32⟩
  | 2 => ⟨S2x512x256x64, .f32⟩
  | 3 => ⟨S2x512x256x64, .f32⟩
  | 4 => ⟨S16384x768, .f32⟩
  | 5 => ⟨S2x512x16384, .f32⟩
  | 6 => ⟨S2x512x256x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S512x512, .i32⟩
  | 48 => ⟨S512x512, .i32⟩
  | 49 => ⟨S512x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x512, .i32⟩
  | 95 => ⟨S512x512, .i32⟩
  | 96 => ⟨S512x512, .i1⟩
  | 97 => ⟨S512x512, .i1⟩
  | 98 => ⟨S2x256x512x512, .f32⟩
  | 99 => ⟨S_, .f32⟩
  | 100 => ⟨S2x256x512x512, .f32⟩
  | 101 => ⟨S2x256x512x512, .f32⟩
  | 102 => ⟨S1x1x512x512, .i1⟩
  | 103 => ⟨S_, .f32⟩
  | 104 => ⟨S_, .f32⟩
  | 105 => ⟨S2x256x512x512, .i1⟩
  | 106 => ⟨S2x256x512x512, .f32⟩
  | 107 => ⟨S2x256x512x512, .f32⟩
  | 108 => ⟨S_, .f32⟩
  | 109 => ⟨S2x256x512, .f32⟩
  | 110 => ⟨S2x256x512x1, .f32⟩
  | 111 => ⟨S2x256x512x512, .f32⟩
  | 112 => ⟨S2x256x512x512, .f32⟩
  | 113 => ⟨S2x256x512x512, .f32⟩
  | 114 => ⟨S_, .i1⟩
  | 115 => ⟨S512, .i1⟩
  | 116 => ⟨S1x1x512x1, .i1⟩
  | 117 => ⟨S_, .f32⟩
  | 118 => ⟨S2x256x512, .f32⟩
  | 119 => ⟨S2x256x512x1, .f32⟩
  | 120 => ⟨S_, .f32⟩
  | 121 => ⟨S_, .f32⟩
  | 122 => ⟨S2x256x512x1, .i1⟩
  | 123 => ⟨S2x256x512x1, .f32⟩
  | 124 => ⟨S2x256x512x1, .f32⟩
  | 125 => ⟨S2x256x512x512, .f32⟩
  | 126 => ⟨S2x256x512x512, .f32⟩
  | 127 => ⟨S1x1x512x1, .i1⟩
  | _ => ⟨S2x512x768, .f32⟩

abbrev hbmTy0_1 (i : Nat) : BufTy := match i % 128 with
  | 0 => ⟨S_, .f32⟩
  | 1 => ⟨S_, .f32⟩
  | 2 => ⟨S2x256x512x512, .i1⟩
  | 3 => ⟨S2x256x512x512, .f32⟩
  | 4 => ⟨S2x256x512x512, .f32⟩
  | 5 => ⟨S2x256x64x512, .f32⟩
  | 6 => ⟨S2x512x256x64, .f32⟩
  | 7 => ⟨S2x512x16384, .f32⟩
  | 8 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Plan.lean ====
/- The plan of the kernel: which rows of which buffer each of the ten exchange rounds reads, sends, receives and writes, and the
   kernel's body cut into a hand-shake, a local computation and those rounds, each piece written once with the round as a
   parameter. -/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Butterfly

open Idealize.ShloMosaic Idealize.ShloMosaic.TcCoe
open Idealize.SL Idealize.SL.Sem
open Cert.KernelIdeal Cert.KernelIdeal.Gen

variable {F : FTy → Type} [FloatOps F]

/-! ## The rounds

Rounds 0–4 are the reduce-scatter (halves of 512, 256, 128, 64, 32 rows), rounds 5–9 the all-gather (32, 64, 128, 256, 512
rows). Round `r` is with the device whose number differs in one bit. -/

/-- How many rows round `r` sends. -/
abbrev len : Fin 10 → ℕ := ![512, 256, 128, 64, 32, 32, 64, 128, 256, 512]
/-- Where round `r`'s section of the staging and landing buffers begins. -/
abbrev off : Fin 10 → ℕ := ![0, 512, 768, 896, 960, 0, 32, 96, 224, 480]
/-- The bit in which a device and its partner of round `r` differ. -/
abbrev kb : Fin 10 → Fin 5 := ![0, 1, 2, 3, 4, 4, 3, 2, 1, 0]
/-- The shape of what round `r` sends. -/
abbrev SR (r : Fin 10) : Shape := ⟨2, ![len r, 768]⟩

/-- The device whose number differs from `c`'s in bit `k` only. -/
def flip (k : Fin 5) (c : Dev nD) : Dev nD := ⟨c.val ^^^ 2 ^ k.val, by revert k c; decide⟩
/-- Twice the partner over a bit is the device itself. -/
theorem flip_flip (k : Fin 5) (c : Dev nD) : flip k (flip k c) = c := by revert k c; decide
/-- The partners over different bits are different. -/
theorem flip_inj : ∀ (c : Dev nD) (k k' : Fin 5), flip k c = flip k' c → k = k' := by decide
/-- A device's partner in round `r`. -/
abbrev peer (r : Fin 10) (c : Dev nD) : Dev nD := flip (kb r) c

/-- The devices the kernel's signals name, as the kernel computes them. -/
def sigDev (k : Fin 5) (c : Dev nD) : Dev nD :=
  ⟨(![k0_dev1 c, k0_dev2 c, k0_dev3 c, k0_dev4 c, k0_dev5 c] : Fin 5 → ℕ) k, by revert k c; decide +kernel⟩
/-- The devices the kernel's copies name, as the kernel computes them. -/
def cpyDev (r : Fin 10) (c : Dev nD) : Dev nD :=
  ⟨(![k0_dev6 c, k0_dev7 c, k0_dev8 c, k0_dev9 c, k0_dev10 c, k0_dev11 c, k0_dev12 c, k0_dev13 c, k0_dev14 c, k0_dev15 c] : Fin 10 → ℕ) r,
    by revert r c; decide +kernel⟩
/-- The signals go to the partners over the five bits; -/
theorem sigDev_eq : ∀ (k : Fin 5) (c : Dev nD), sigDev k c = flip k c := by decide +kernel
/-- the copies go to the rounds' partners. -/
theorem cpyDev_eq : ∀ (r : Fin 10) (c : Dev nD), cpyDev r c = peer r c := by decide +kernel

/-- The first row (and column) of the result that round `r` sends, as the kernel computes it. -/
def ldOff (r : Fin 10) (c : Dev nD) : Fin 2 → ℕ :=
  (![k0_off1 c, k0_off3 c, k0_off5 c, k0_off7 c, k0_off9 c, k0_off10 c, k0_off12 c, k0_off14 c, k0_off16 c, k0_off18 c] : Fin 10 → Fin 2 → ℕ) r
/-- The first row (and column) of the result that round `r` writes. -/
def stOff (r : Fin 10) (c : Dev nD) : Fin 2 → ℕ :=
  (![k0_off2 c, k0_off4 c, k0_off6 c, k0_off8 c, k0_off10 c, k0_off11 c, k0_off13 c, k0_off15 c, k0_off17 c, k0_off19 c] : Fin 10 → Fin 2 → ℕ) r
/-- What a round sends lies in the result; -/
theorem ldOff_inb : ∀ (r : Fin 10) (c : Dev nD) (a : Fin 2), ldOff r c a + (SR r).size a ≤ S1024x768.size a := by decide +kernel
/-- so does what it writes; -/
theorem stOff_inb : ∀ (r : Fin 10) (c : Dev nD) (a : Fin 2), stOff r c a + (SR r).size a ≤ S1024x768.size a := by decide +kernel
/-- its section lies in the exchange buffers, -/
theorem secInb : ∀ (r : Fin 10) (a : Fin 2), (![off r, 0] : Fin 2 → ℕ) a + (SR r).size a ≤ S992x768.size a := by decide
/-- and is not empty. -/
theorem numel_pos : ∀ r : Fin 10, 0 < (SR r).numel := by decide

/-- The rows round `r` sends and the rows it writes, as rectangles of the result; its section of the exchange buffers. -/
abbrev ldRect (r : Fin 10) (c : Dev nD) : Rect S1024x768 := Rect.unit (s := S1024x768) (ldOff r c) (SR r).size (ldOff_inb r c)
abbrev stRect (r : Fin 10) (c : Dev nD) : Rect S1024x768 := Rect.unit (s := S1024x768) (stOff r c) (SR r).size (stOff_inb r c)
abbrev secRect (r : Fin 10) : Rect S992x768 := Rect.unit (s := S992x768) ![off r, 0] (SR r).size (secInb r)
/-- A section is whole words, -/
theorem secWords : ∀ r : Fin 10, (secRect r).WholeWords (EltTy.packing .bf16) := by decide
/-- its packed rows whole. -/
theorem secPacked : ∀ r : Fin 10, (secRect r).PackedRows (EltTy.packing .bf16) := by decide

/-! ## Buffers and semaphores -/

abbrev xM : Memref sig .tc .vmem S1024x768 .f32 := Memref.whole cc0_stg0_0
abbrev wqM : Memref sig .tc .vmem S768x512 .f32 := Memref.whole cc0_stg1_0
abbrev kM : Memref sig .tc .vmem S16x64x512 .f32 := Memref.whole cc0_stg2_0
abbrev vM : Memref sig .tc .vmem S16x512x64 .f32 := Memref.whole cc0_stg3_0
abbrev woM : Memref sig .tc .vmem S512x768 .f32 := Memref.whole cc0_stg4_0
abbrev outM : Memref sig .tc .vmem S1024x768 .f32 := Memref.whole cc0_stg5_0
abbrev stageM : Memref sig .tc .vmem S992x768 .bf16 := Memref.whole cc0_scratch0
abbrev rsM : Memref sig .tc .vmem S992x768 .bf16 := Memref.whole cc0_scratch1
abbrev agM : Memref sig .tc .vmem S992x768 .bf16 := Memref.whole cc0_scratch2

/-- Round `r`'s landing buffer. -/
def landM (r : Fin 10) : Memref sig .tc .vmem S992x768 .bf16 := (![rsM, rsM, rsM, rsM, rsM, agM, agM, agM, agM, agM] : Fin 10 → Memref sig .tc .vmem S992x768 .bf16) r
/-- A landing buffer is a whole array. -/
theorem landM_whole (r : Fin 10) : (landM r).IsWhole := by
  fin_cases r <;> exact Memref.isWhole_whole _
/-- Round `r`'s section of an exchange buffer. -/
abbrev sec (M : Memref sig .tc .vmem S992x768 .bf16) (r : Fin 10) : Memref sig .tc .vmem (SR r) .bf16 := M.slice (secRect r) (fun _ => rfl)

/-- Round `r`'s send and receive semaphores. -/
def sendS (r : Fin 10) : DmaSem sig := ⟨6 + r.val, by have := r.isLt; show _ < 26; omega⟩
def recvS (r : Fin 10) : DmaSem sig := ⟨16 + r.val, by have := r.isLt; show _ < 26; omega⟩
abbrev barS : Sem sig := (SemArray.scalar (sig.barrier 0 rfl) : Sems sig S_).sem

/-! ## The pieces of the body -/

/-- Signal the barrier of the first `n` partners. -/
def signals (c : Dev nD) : (n : ℕ) → n ≤ 5 → Prog (TpuEff nD τ sig (Elt F) Λ₀ .tc) PUnit
  | 0, _ => pure ⟨⟩
  | n + 1, hn => do
    signals c n (Nat.le_of_succ_le hn)
    Prog.lift (.semSignal (Dev.tc (sigDev ⟨n, hn⟩ c)) barS (1 : ℕ))

/-- Signal each of the five partners' barrier, then wait for five units on the own one. -/
def greet (c : Dev nD) : Prog (TpuEff nD τ sig (Elt F) Λ₀ .tc) PUnit := do
  signals c 5 (le_refl 5)
  Prog.lift (.semWait barS (5 : ℕ))

/-- What round `r` sends, from the rows read: their bf16 rounding. -/
def down (r : Fin 10) (v : Vec F (SR r) .f32) : FVec F (SR r) .bf16 :=
  shapeCast (SR r) (truncf .bf16 (shapeCast (SR r) v rfl) bitsLt_bf16_f32) rfl
/-- What a reduce-scatter round writes: the own rows plus what came. -/
def fold (r : Fin 10) (v : Vec F (SR r) .f32) (w : Vec F (SR r) .bf16) : FVec F (SR r) .f32 :=
  addf (shapeCast (SR r) v rfl) (extf .f32 w bitsLt_bf16_f32)
/-- What an all-gather round writes: what came. -/
def place (r : Fin 10) (w : Vec F (SR r) .bf16) : FVec F (SR r) .f32 := extf .f32 w bitsLt_bf16_f32

/-- The exchange of round `r`: stage the rounded rows, copy them to the partner, wait for the partner's. -/
def exchange (r : Fin 10) (c : Dev nD) : Prog (TpuEff nD τ sig (Elt F) Λ₀ .tc) PUnit := do
  let v : Vec F (SR r) .f32 ← Prog.lift (.load outM (ldRect r c).toLoadRect (View.loadsAt_vmem (numel_pos r)))
  let _ : Vec F (SR r) .bf16 ← Prog.lift (.load stageM (secRect r).toLoadRect (View.loadsAt_vmem (numel_pos r)))
  Prog.lift (.store stageM (secRect r) (down r v) Finset.univ
    (View.stores_vmem (numel_pos r) ((Memref.isWhole_whole _).storeExact_slice rfl _ (secPacked r)) (fun _ => rfl)) (.inl rfl))
  Prog.lift (.enqueueDma (sec stageM r) (.remote (Dev.tc (cpyDev r c)) (sec (landM r) r) (.dma (sendS r))) (.dma (recvS r))
    ((Memref.isWhole_whole _).wordExact_slice rfl _ (secWords r)) ((landM_whole r).wordExact_slice rfl _ (secWords r)) ⟨⟨rfl, Or.inl rfl⟩, trivial⟩)
  Prog.lift (.waitDma2 (recvS r) (sec stageM r) (sec (landM r) r)
    ((Memref.isWhole_whole _).wordExact_slice rfl _ (secWords r)) ((landM_whole r).wordExact_slice rfl _ (secWords r)))

/-- The end of a reduce-scatter round: add what came to the own half. -/
def gather (r : Fin 10) (c : Dev nD) : Prog (TpuEff nD τ sig (Elt F) Λ₀ .tc) PUnit := do
  let v : Vec F (SR r) .f32 ← Prog.lift (.load outM (stRect r c).toLoadRect (View.loadsAt_vmem (numel_pos r)))
  let w : Vec F (SR r) .bf16 ← Prog.lift (.load (landM r) (secRect r).toLoadRect (View.loadsAt_vmem (numel_pos r)))
  let _ : Vec F (SR r) .f32 ← Prog.lift (.load outM (stRect r c).toLoadRect (View.loadsAt_vmem (numel_pos r)))
  Prog.lift (.store outM (stRect r c) (fold r v w) Finset.univ (View.stores_vmem_bits_univ (numel_pos r) rfl) (.inl rfl))

/-- The end of an all-gather round: write what came beside the own rows. -/
def spread (r : Fin 10) (c : Dev nD) : Prog (TpuEff nD τ sig (Elt F) Λ₀ .tc) PUnit := do
  let w : Vec F (SR r) .bf16 ← Prog.lift (.load (landM r) (secRect r).toLoadRect (View.loadsAt_vmem (numel_pos r)))
  let _ : Vec F (SR r) .f32 ← Prog.lift (.load outM (stRect r c).toLoadRect (View.loadsAt_vmem (numel_pos r)))
  Prog.lift (.store outM (stRect r c) (place r w) Finset.univ (View.stores_vmem_bits_univ (numel_pos r) rfl) (.inl rfl))

/-- Wait until round `r`'s own copy has left the staging buffer. -/
def drain (r : Fin 10) : Prog (TpuEff nD τ sig (Elt F) Λ₀ .tc) PUnit :=
  Prog.lift (.waitDma2 (sendS r) (sec (landM r) r) (sec stageM r)
    ((landM_whole r).wordExact_slice rfl _ (secWords r)) ((Memref.isWhole_whole _).wordExact_slice rfl _ (secWords r)))

/-- The end of round `r`, of either kind. -/
def finish (r : Fin 10) (c : Dev nD) : Prog (TpuEff nD τ sig (Elt F) Λ₀ .tc) PUnit :=
  if r.val < 5 then gather r c else spread r c

/-- The reduce-scatter rounds and the all-gather rounds, each numbered from 0. -/
def lo (k : Fin 5) : Fin 10 := ⟨k.val, by have := k.isLt; omega⟩
def hi (k : Fin 5) : Fin 10 := ⟨5 + k.val, by have := k.isLt; omega⟩

/-- The first `n` rounds of a kind. -/
def rounds (e : Fin 5 → Fin 10) (c : Dev nD) : (n : ℕ) → n ≤ 5 → Prog (TpuEff nD τ sig (Elt F) Λ₀ .tc) PUnit
  | 0, _ => pure ⟨⟩
  | n + 1, hn => do
    rounds e c n (Nat.le_of_succ_le hn)
    exchange (e ⟨n, hn⟩) c
    finish (e ⟨n, hn⟩) c

/-- The waits for the first `n` copies of a kind to have left. -/
def drains (e : Fin 5 → Fin 10) : (n : ℕ) → n ≤ 5 → Prog (TpuEff nD τ sig (Elt F) Λ₀ .tc) PUnit
  | 0, _ => pure ⟨⟩
  | n + 1, hn => do
    drains e n (Nat.le_of_succ_le hn)
    drain (e ⟨n, hn⟩)

/-- The positions a query block of 64 attends to: same residue mod 4 of the block index. -/
def mask : IVec S512x512 1 :=
  k0_pay6 (iota .tc S512x512 32 [1] iota_S512x512_d1_w32)
    (k0_pay3 (iota .tc S512x512 32 [0] iota_S512x512_d0_w32) 64#32 k0_pay1 k0_pay2 0#32)
    64#32 (k0_pay4 (iota .tc S512x512 32 [1] iota_S512x512_d1_w32)) (k0_pay5 (iota .tc S512x512 32 [1] iota_S512x512_d1_w32))
    (Scalar.extui (Scalar.cmpi .sgt 64#32 0#32))

/-- Masked, scaled attention weights of one head, from its queries and its keys. -/
def weights (q : FVec F S512x64 .f32) (k : Vec F S1x64x512 .f32) : FVec F S512x512 .f32 :=
  have s : FVec F S512x512 .f32 := select mask
    (mulf (matmul dot_S512x64_S64x512_S512x512_1_0_0_1_n_n none q (shapeCast S64x512 k shapeCasts_S1x64x512_S64x512) (constant S512x512 .f32 0x00000000#32))
      (broadcast S512x512 (Scalar.ofBits .f32 0x3E000000#32)))
    (broadcast S512x512 (Scalar.ofBits .f32 0xCE6E6B28#32))
  have p : FVec F S512x512 .f32 := exp (subf s (broadcastTo S512x512
    (shapeCast S512x1 (multiReduction .maximumf [1] S512 s 0xFF800000#32 reduces_S512x512_S512 (.inl rfl) rfl) shapeCasts_S512_S512x1)
    broadcasts_S512x1_S512x512))
  divf p (broadcastTo S512x512
    (shapeCast S512x1 (multiReduction .add [1] S512 p 0x00000000#32 reduces_S512x512_S512 (.inl rfl) rfl) shapeCasts_S512_S512x1)
    broadcasts_S512x1_S512x512)

/-- A head's columns lie in the queries; -/
theorem slicesHead (h : ℕ) (hh : h < 8) : S512x512.Slices ![0, 64 * h] S512x64 := by
  revert h; decide

/-- The accumulator after one more head: `acc + (weights · V) · Wo`. -/
def headStep (h : ℕ) (hh : h < 8) (q : FVec F S512x512 .f32) (acc : FVec F S512x768 .f32) (k : Vec F S1x64x512 .f32) (v : Vec F S1x512x64 .f32)
    (w : Vec F S64x768 .f32) : FVec F S512x768 .f32 :=
  addf acc (matmul dot_S512x64_S64x768_S512x768_1_0_0_1_n_n none
    (matmul dot_S512x512_S512x64_S512x64_1_0_0_1_n_n none
      (weights (extractStridedSlice S512x64 ![0, 64 * h] q (slicesHead h hh)) k)
      (shapeCast S512x64 v shapeCasts_S1x512x64_S512x64) (constant S512x64 .f32 0x00000000#32))
    (shapeCast S64x768 w shapeCasts_S64x768_S64x768) (constant S512x768 .f32 0x00000000#32))

/-- its block lies in the keys; -/
theorem kInb (b h : ℕ) (hb : b < 2) (hh : h < 8) : ∀ a, (![8 * b + h, 0, 0] : Fin 3 → ℕ) a + S1x64x512.size a ≤ S16x64x512.size a := by
  exact (by decide : ∀ b < 2, ∀ h < 8, ∀ a, (![8 * b + h, 0, 0] : Fin 3 → ℕ) a + S1x64x512.size a ≤ S16x64x512.size a) b hb h hh
/-- and in the values; -/
theorem vInb (b h : ℕ) (hb : b < 2) (hh : h < 8) : ∀ a, (![8 * b + h, 0, 0] : Fin 3 → ℕ) a + S1x512x64.size a ≤ S16x512x64.size a := by
  exact (by decide : ∀ b < 2, ∀ h < 8, ∀ a, (![8 * b + h, 0, 0] : Fin 3 → ℕ) a + S1x512x64.size a ≤ S16x512x64.size a) b hb h hh
/-- its rows lie in the output weights; -/
theorem woInb (h : ℕ) (hh : h < 8) : ∀ a, (![64 * h, 0] : Fin 2 → ℕ) a + S64x768.size a ≤ S512x768.size a := by
  revert h; decide
/-- a batch's rows lie in the activations. -/
theorem xInb (b : ℕ) (hb : b < 2) : ∀ a, (![512 * b, 0] : Fin 2 → ℕ) a + S512x768.size a ≤ S1024x768.size a := by
  revert b; decide

abbrev kRect (b h : ℕ) (hb : b < 2) (hh : h < 8) : Rect S16x64x512 := Rect.unit (s := S16x64x512) ![8 * b + h, 0, 0] S1x64x512.size (kInb b h hb hh)
abbrev vRect (b h : ℕ) (hb : b < 2) (hh : h < 8) : Rect S16x512x64 := Rect.unit (s := S16x512x64) ![8 * b + h, 0, 0] S1x512x64.size (vInb b h hb hh)
abbrev woRect (h : ℕ) (hh : h < 8) : Rect S512x768 := Rect.unit (s := S512x768) ![64 * h, 0] S64x768.size (woInb h hh)
abbrev xRect (b : ℕ) (hb : b < 2) : Rect S1024x768 := Rect.unit (s := S1024x768) ![512 * b, 0] S512x768.size (xInb b hb)

/-- The first `n` heads of batch `b`: the accumulator after them. -/
def heads (b : ℕ) (hb : b < 2) (q : FVec F S512x512 .f32) : (n : ℕ) → n ≤ 8 → Prog (TpuEff nD τ sig (Elt F) Λ₀ .tc) (FVec F S512x768 .f32)
  | 0, _ => pure (broadcast S512x768 (Scalar.ofBits .f32 0x00000000#32))
  | n + 1, hn => do
    let acc ← heads b hb q n (Nat.le_of_succ_le hn)
    let k : Vec F S1x64x512 .f32 ← Prog.lift (.load kM (kRect b n hb hn).toLoadRect (View.loadsAt_vmem h_S1x64x512))
    let v : Vec F S1x512x64 .f32 ← Prog.lift (.load vM (vRect b n hb hn).toLoadRect (View.loadsAt_vmem h_S1x512x64))
    let w : Vec F S64x768 .f32 ← Prog.lift (.load woM (woRect n hn).toLoadRect (View.loadsAt_vmem h_S64x768))
    pure (headStep n hn q acc k v w)

/-- The queries of a batch, all heads of this device. -/
def queries (x : Vec F S512x768 .f32) (wq : Vec F S768x512 .f32) : FVec F S512x512 .f32 :=
  matmul dot_S512x768_S768x512_S512x512_1_0_0_1_n_n none (shapeCast S512x768 x shapeCasts_S512x768_S512x768)
    (shapeCast S768x512 wq shapeCasts_S768x512_S768x512) (constant S512x512 .f32 0x00000000#32)

/-- One batch: its queries, its eight heads, and the store of the sum. -/
def batch (b : ℕ) (hb : b < 2) : Prog (TpuEff nD τ sig (Elt F) Λ₀ .tc) PUnit := do
  let x : Vec F S512x768 .f32 ← Prog.lift (.load xM (xRect b hb).toLoadRect (View.loadsAt_vmem h_S512x768))
  let wq : Vec F S768x512 .f32 ← Prog.lift (.load wqM (Rect.unit (s := S768x512) ![0, 0] S768x512.size inb_S768x512_S768x512_0_0).toLoadRect (View.loadsAt_vmem h_S768x512))
  let acc ← heads b hb (queries x wq) 8 (le_refl 8)
  let _ : Vec F S512x768 .f32 ← Prog.lift (.load outM (xRect b hb).toLoadRect (View.loadsAt_vmem h_S512x768))
  Prog.lift (.store outM (xRect b hb) acc Finset.univ (View.stores_vmem_bits_univ h_S512x768 rfl) (.inl rfl))

/-- The ten rounds. -/
def talk (c : Dev nD) : Prog (TpuEff nD τ sig (Elt F) Λ₀ .tc) PUnit := do
  rounds lo c 5 (le_refl 5)
  drains lo 5 (le_refl 5)
  rounds hi c 5 (le_refl 5)
  drains hi 5 (le_refl 5)

/-- The whole body, cut into its pieces. -/
def pieces : Prog (TpuEff nD τ sig (Elt F) Λ₀ .tc) PUnit := do
  let c : Dev nD ← Prog.lift .deviceId
  greet c
  batch 0 (by decide)
  batch 1 (by decide)
  talk c

end Cert.Butterfly

end
-- ==== Proof.Cut.lean ====
/- The kernel's body is the pieces of the plan, one after the other. -/
module

public import proofs.«01_k».proof.Proof.Plan

@[expose] public section

noncomputable section

namespace Cert.Butterfly

open Idealize.ShloMosaic Idealize.ShloMosaic.TcCoe
open Idealize.SL Idealize.SL.Sem
open Cert.KernelIdeal Cert.KernelIdeal.Gen

variable {F : FTy → Type} [FloatOps F]

set_option maxRecDepth 65536 in
set_option maxHeartbeats 4000000 in
/-- The body the pipeline calls, on its whole buffers, is `pieces`. -/
theorem body_eq :
    cc0__body (F := F) xM (Memref.isWhole_whole _) wqM (Memref.isWhole_whole _) kM (Memref.isWhole_whole _) vM (Memref.isWhole_whole _) woM (Memref.isWhole_whole _)
      outM (Memref.isWhole_whole _) stageM (Memref.isWhole_whole _) rsM (Memref.isWhole_whole _) agM (Memref.isWhole_whole _) cc0_scratch3 cc0_scratch4
      = pieces := by
  rw [cc0__body_eq_skeleton]
  rfl

end Cert.Butterfly

end
-- ==== Proof.Sched.lean ====
/- The protocol the devices keep: what the result holds after each round, which semaphore pays for which rows, what every device
   owes at launch, and the levels at which it may wait. -/
module

public import proofs.«01_k».proof.Proof.Plan
public import Idealize.ShloMosaic.Lib.Rounds
public import Idealize.ShloMosaic.Lib.Pipeline.Regions
public import Idealize.ShloMosaic.Lib.Pipeline.RegionTalk
public import Idealize.ShloMosaic.Lib.Tactic

@[expose] public section

noncomputable section

namespace Cert.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## What the result holds after each round -/

/-- The contents of the result's staging buffer. -/
abbrev OutB (F : FTy → Type) : Type := (cc0_stg5_0 : Ref sig .tc).ty.Contents (Elt F)

/-- What device `c` sends in round `r` when its result holds `g`. -/
def sent (r : Fin 10) (c : Dev nD) (g : OutB F) : FVec F (SR r) .bf16 := down r ((outM.access (ldRect r c)).read (Elt F) g)

/-- What the result of device `c` holds after round `r`, from what it held before and what came. -/
def step (r : Fin 10) (c : Dev nD) (g : OutB F) (w : Vec F (SR r) .bf16) : OutB F :=
  (outM.access (stRect r c)).write (Elt F) g
    (if r.val < 5 then fold r ((outM.access (stRect r c)).read (Elt F) g) w else place r w) Finset.univ

/-- What every device's result holds after `n` rounds, when device `d`'s held `P d` before them. -/
def content (P : Dev nD → OutB F) : ℕ → Dev nD → OutB F
  | 0, c => P c
  | n + 1, c => if h : n < 10 then
      step ⟨n, h⟩ c (content P n c) (sent ⟨n, h⟩ (peer ⟨n, h⟩ c) (content P n (peer ⟨n, h⟩ c)))
    else content P n c

/-- What reaches device `c` in round `r`. -/
def come (P : Dev nD → OutB F) (r : Fin 10) (c : Dev nD) : Vec F (SR r) .bf16 := sent r (peer r c) (content P r.val (peer r c))

/-- One round on. -/
theorem content_succ (P : Dev nD → OutB F) (r : Fin 10) (c : Dev nD) :
    content P (r.val + 1) c = step r c (content P r.val c) (come P r c) := by
  rw [content, dif_pos r.isLt]; rfl

/-! ## Cells and sections -/

/-- The protocol's ghost state: the pipeline's, and rounds whose duties are numbered by the five bits. -/
abbrev UU : Type := URounds (GSem nD τ sig) Unit × URounds (GSem nD τ sig) (Fin 5)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Fin 5)) (MT nD τ sig Unit (Elt F) ℕ UU ℕ) := embR

abbrev barCell (c : Dev nD) : GSem nD τ sig := ((c : Thread nD τ), .reg barS)
abbrev sendCell (r : Fin 10) (c : Dev nD) : GSem nD τ sig := ((c : Thread nD τ), .dma (sendS r))
abbrev recvCell (r : Fin 10) (c : Dev nD) : GSem nD τ sig := ((c : Thread nD τ), .dma (recvS r))

/-- The credit of round `r`'s copy. -/
def amt (r : Fin 10) : ℕ := (sec stageM r).view.dmaCredit
/-- It is not zero; -/
theorem amt_pos (r : Fin 10) : 0 < amt r := View.dmaCredit_pos _ (numel_pos r)
/-- the same on the staging section -/
theorem amt_stage (r : Fin 10) : (sec stageM r).view.dmaCredit = amt r := rfl
/-- and on the landing section. -/
theorem amt_land (r : Fin 10) : (sec (landM r) r).view.dmaCredit = amt r := by
  fin_cases r <;> rfl

/-- Round `r`'s section of the buffer `M` on device `c`, holding what the contents `f` say. -/
abbrev secPts (M : Memref sig .tc .vmem S992x768 .bf16) (r : Fin 10) (c : Dev nD) (f : Buf (Elt F) ((sec M r).view.loc (c : Thread nD τ))) : sProp 𝕄 :=
  (sec M r).view.loc (c : Thread nD τ) ↦[(sec M r).view.set]{fullShare} f
/-- The same at contents not chosen. -/
def secAny (M : Memref sig .tc .vmem S992x768 .bf16) (r : Fin 10) (c : Dev nD) : sProp 𝕄 := iprop(∃ f, secPts M r c f)
/-- Device `c`'s landing section of round `r` with what its partner sent. -/
def landed (P : Dev nD → OutB F) (r : Fin 10) (c : Dev nD) : sProp 𝕄 :=
  iprop(∃ f, ⌜(sec (landM r) r).view.read (Elt F) f = come P r c⌝ ∗ secPts (landM r) r c f)

/-! ## The schedule -/

/-- What device `p` hands over for one round: its landing section, and that its receive cell is open. -/
def offer (r : Fin 10) (p : Dev nD) : sProp 𝕄 := iprop(secAny (landM r) r p ∗ reached ER (recvCell r p) 0)

/-- The all-gather round over bit `k`. -/
def hiOf (k : Fin 5) : Fin 10 := hi (Fin.rev k)
/-- The reduce-scatter round over bit `k` is over bit `k`; -/
theorem kb_lo : ∀ k : Fin 5, kb (lo k) = k := by decide
/-- so is the all-gather round. -/
theorem kb_hiOf : ∀ k : Fin 5, kb (hiOf k) = k := by decide

/-- Paid to device `c`'s barrier by its partner over bit `k`: that partner's landing sections of the two rounds over bit `k`. -/
def barPay (c : Dev nD) (k : Fin 5) : sProp 𝕄 := iprop(offer (lo k) (flip k c) ∗ offer (hiOf k) (flip k c))

/-- The round a DMA semaphore belongs to, and whether it is a receive semaphore. -/
def sendOf (s : DmaSem sig) : Option (Fin 10) := if h : 6 ≤ s.val ∧ s.val < 16 then some ⟨s.val - 6, by omega⟩ else none
def recvOf (s : DmaSem sig) : Option (Fin 10) := if h : 16 ≤ s.val ∧ s.val < 26 then some ⟨s.val - 16, by omega⟩ else none
/-- Send semaphores are read as such, -/
theorem sendOf_send : ∀ r, sendOf (sendS r) = some r := by decide
/-- receive semaphores as such, -/
theorem recvOf_recv : ∀ r, recvOf (recvS r) = some r := by decide
/-- and neither -/
theorem sendOf_recv : ∀ r, sendOf (recvS r) = none := by decide
/-- as the other. -/
theorem recvOf_send : ∀ r, recvOf (sendS r) = none := by decide

/-- Which duties round 0 of a TensorCore's semaphore has. -/
def dutiesOf : SemLoc sig → Finset (Fin 5)
  | .reg _ => Finset.univ
  | .dma s => if (sendOf s).isSome ∨ (recvOf s).isSome then {0} else ∅
def amountOf : SemLoc sig → ℕ
  | .reg _ => 1
  | .dma s => match sendOf s, recvOf s with
    | some r, _ => amt r
    | none, some r => amt r
    | none, none => 1
def payOf (P : Dev nD → OutB F) (c : Dev nD) : SemLoc sig → Fin 5 → sProp 𝕄
  | .reg _, k => barPay c k
  | .dma s, _ => match sendOf s, recvOf s with
    | some r, _ => secAny stageM r c
    | none, some r => landed P r c
    | none, none => iprop(emp)

/-- One round on every barrier, send and receive cell. -/
def sched (P : Dev nD → OutB F) : Rounds.Schedule (GSem nD τ sig) (Fin 5) 𝕄 where
  duties g r := if r = 0 ∧ g.1.2 = .tc then dutiesOf g.2 else ∅
  unitless _ := False
  amount g _ _ := amountOf g.2
  payload g _ d := payOf P g.1.1 g.2 d
  amount_pos g _ _ _ := by
    rcases g with ⟨t, s | s⟩
    · exact Nat.one_pos
    · show 0 < (match sendOf s, recvOf s with | some r, _ => amt r | none, some r => amt r | none, none => 1)
      split
      · exact amt_pos _
      · exact amt_pos _
      · exact Nat.one_pos

instance payload_storable (P : Dev nD → OutB F) (g : GSem nD τ sig) (r : ℕ) (d : Fin 5) :
    BI.Storable (upEmb : UEmb _ 𝕄) ((sched P).payload g r d) := by
  show BI.Storable upEmb (payOf P g.1.1 g.2 d)
  rcases g with ⟨t, s | s⟩
  · unfold payOf barPay offer secAny; infer_instance
  · unfold payOf secAny landed
    dsimp only
    split <;> infer_instance

variable (P : Dev nD → OutB F)

/-- The duties of a TensorCore's cell; -/
theorem duties_tc (c : Dev nD) (sm : SemLoc sig) : (sched P).duties ((c : Thread nD τ), sm) 0 = dutiesOf sm := by
  unfold sched; dsimp only; rw [if_pos ⟨rfl, rfl⟩]
/-- a barrier has five, -/
theorem duties_bar (c : Dev nD) : (sched P).duties (barCell c) 0 = Finset.univ := duties_tc P c _
/-- a send cell one, -/
theorem duties_send (r : Fin 10) (c : Dev nD) : (sched P).duties (sendCell r c) 0 = {0} := by
  refine (duties_tc P c _).trans ?_
  unfold dutiesOf; dsimp only; rw [sendOf_send]; rfl
/-- a receive cell one, -/
theorem duties_recv (r : Fin 10) (c : Dev nD) : (sched P).duties (recvCell r c) 0 = {0} := by
  refine (duties_tc P c _).trans ?_
  unfold dutiesOf; dsimp only; rw [recvOf_recv, sendOf_recv]; rfl
/-- and no cell any in a later round. -/
theorem duties_later (g : GSem nD τ sig) (r : ℕ) (hr : 1 ≤ r) : (sched P).duties g r = ∅ := if_neg fun h => by omega

/-- A barrier duty is one unit; -/
theorem amount_bar (c : Dev nD) (k : Fin 5) : (sched P).amount (barCell c) 0 k = 1 := rfl
/-- a send cell's is the copy's credit, -/
theorem amount_send (r : Fin 10) (c : Dev nD) (k : Fin 5) : (sched P).amount (sendCell r c) 0 k = amt r := by
  show (match sendOf (sendS r), recvOf (sendS r) with | some r, _ => amt r | none, some r => amt r | none, none => 1) = _
  rw [sendOf_send]
/-- and so is a receive cell's. -/
theorem amount_recv (r : Fin 10) (c : Dev nD) (k : Fin 5) : (sched P).amount (recvCell r c) 0 k = amt r := by
  show (match sendOf (recvS r), recvOf (recvS r) with | some r, _ => amt r | none, some r => amt r | none, none => 1) = _
  rw [sendOf_recv, recvOf_recv]

/-- A barrier duty hands over landing sections; -/
theorem payload_bar (c : Dev nD) (k : Fin 5) : (sched P).payload (barCell c) 0 k = barPay c k := rfl
/-- a send duty the staging section back; -/
theorem payload_send (r : Fin 10) (c : Dev nD) (k : Fin 5) : (sched P).payload (sendCell r c) 0 k = secAny stageM r c := by
  show (match sendOf (sendS r), recvOf (sendS r) with | some r, _ => secAny stageM r c | none, some r => landed P r c | none, none => iprop(emp)) = _
  rw [sendOf_send]
/-- a receive duty the landing section, filled. -/
theorem payload_recv (r : Fin 10) (c : Dev nD) (k : Fin 5) : (sched P).payload (recvCell r c) 0 k = landed P r c := by
  show (match sendOf (recvS r), recvOf (recvS r) with | some r, _ => secAny stageM r c | none, some r => landed P r c | none, none => iprop(emp)) = _
  rw [sendOf_recv, recvOf_recv]

/-- What a barrier gathers, -/
theorem expect_bar (c : Dev nD) : (sched P).expect (barCell c) 0 = 5 := by
  unfold Schedule.expect Schedule.amountOf; rw [duties_bar]
  rw [Finset.sum_congr rfl fun k _ => amount_bar P c k]; rfl
/-- what a send cell gathers, -/
theorem expect_send (r : Fin 10) (c : Dev nD) : (sched P).expect (sendCell r c) 0 = amt r := by
  unfold Schedule.expect Schedule.amountOf; rw [duties_send, Finset.sum_singleton, amount_send]
/-- what a receive cell gathers, in units; -/
theorem expect_recv (r : Fin 10) (c : Dev nD) : (sched P).expect (recvCell r c) 0 = amt r := by
  unfold Schedule.expect Schedule.amountOf; rw [duties_recv, Finset.sum_singleton, amount_recv]

/-- a barrier's gains in resources, -/
theorem rest_bar (c : Dev nD) : bigSep ((sched P).duties (barCell c) 0 \ ∅) (fun k => (sched P).payload (barCell c) 0 k)
    = bigSep Finset.univ fun k => (barPay c k : sProp 𝕄) := by
  rw [Finset.sdiff_empty, duties_bar]; rfl
/-- a send cell's, -/
theorem rest_send (r : Fin 10) (c : Dev nD) : bigSep ((sched P).duties (sendCell r c) 0 \ ∅) (fun k => (sched P).payload (sendCell r c) 0 k)
    = (secAny stageM r c : sProp 𝕄) := by
  rw [Finset.sdiff_empty, duties_send, bigSep_singleton, payload_send]
/-- a receive cell's. -/
theorem rest_recv (r : Fin 10) (c : Dev nD) : bigSep ((sched P).duties (recvCell r c) 0 \ ∅) (fun k => (sched P).payload (recvCell r c) 0 k)
    = landed P r c := by
  rw [Finset.sdiff_empty, duties_recv, bigSep_singleton, payload_recv]

/-! ## What is owed, and the levels -/

/-- The receive credit device `c` owes its partners of round `n` and later. -/
def oweR (n : ℕ) (c : Dev nD) : CellTallies nD τ sig Unit :=
  ∑ r ∈ Finset.univ.filter (fun r : Fin 10 => n ≤ r.val), tallyAt (recvCell r (peer r c)) () (amt r)
/-- The barrier units device `c` owes its partners over bit `n` and above. -/
def oweB (n : ℕ) (c : Dev nD) : CellTallies nD τ sig Unit :=
  ∑ k ∈ Finset.univ.filter (fun k : Fin 5 => n ≤ k.val), tallyAt (barCell (flip k c)) () 1
/-- What device `c` owes at launch. -/
def owe0 (c : Dev nD) : CellTallies nD τ sig Unit := oweR 0 c + oweB 0 c

/-- The numbers from `r` on are `r` and those after it. -/
theorem filter_from {N : ℕ} (r : Fin N) : Finset.univ.filter (fun i : Fin N => r.val ≤ i.val)
    = insert r (Finset.univ.filter fun i : Fin N => r.val + 1 ≤ i.val) := by
  ext i; simp only [Finset.mem_filter, Finset.mem_univ, true_and, Finset.mem_insert, Fin.ext_iff]; omega
/-- Paying one round's copy; -/
theorem oweR_step (r : Fin 10) (c : Dev nD) : oweR r.val c = oweR (r.val + 1) c + tallyAt (recvCell r (peer r c)) () (amt r) := by
  unfold oweR; rw [filter_from, Finset.sum_insert (by simp), add_comm]
/-- paying one barrier unit; -/
theorem oweB_step (k : Fin 5) (c : Dev nD) : oweB k.val c = oweB (k.val + 1) c + tallyAt (barCell (flip k c)) () 1 := by
  unfold oweB; rw [filter_from, Finset.sum_insert (by simp), add_comm]
/-- all barrier units paid; -/
theorem oweB_end (c : Dev nD) : oweB 5 c = 0 := by
  unfold oweB; rw [Finset.filter_false_of_mem (fun k _ => by have := k.isLt; omega), Finset.sum_empty]
/-- all copies paid. -/
theorem oweR_end (c : Dev nD) : oweR 10 c = 0 := by
  unfold oweR; rw [Finset.filter_false_of_mem (fun k _ => by have := k.isLt; omega), Finset.sum_empty]

/-- A sum owed somewhere has a summand owed there. -/
theorem tally_sum_pos {ι : Type} (s : Finset ι) (t : ι → CellTallies nD τ sig Unit) {g : GSem nD τ sig} {u : Unit}
    (h : 0 < (∑ i ∈ s, t i) g u) : ∃ i ∈ s, 0 < t i g u := by
  classical
  induction s using Finset.induction_on with
  | empty => rw [Finset.sum_empty] at h; exact absurd h (Nat.lt_irrefl 0)
  | insert a s ha ih =>
    rw [Finset.sum_insert ha, Pi.add_apply, Finsupp.add_apply] at h
    rcases Nat.add_pos_iff_pos_or_pos.mp h with h | h
    · exact ⟨a, Finset.mem_insert_self _ _, h⟩
    · obtain ⟨i, hi, h⟩ := ih h; exact ⟨i, Finset.mem_insert_of_mem hi, h⟩
/-- What is owed on one cell is owed only there. -/
theorem tally_pos {g g' : GSem nD τ sig} {u : Unit} {n : ℕ} (h : 0 < (tallyAt g' () n : CellTallies nD τ sig Unit) g u) : g = g' := by
  rw [tallyAt_apply] at h
  split at h
  · next hg => exact hg.1
  · exact absurd h (Nat.lt_irrefl 0)

/-- Only receive cells of round `n` and later carry what is owed after the barrier. -/
theorem oweR_pos {n : ℕ} {c : Dev nD} {g : GSem nD τ sig} {u : Unit} (h : 0 < oweR n c g u) :
    ∃ r : Fin 10, n ≤ r.val ∧ g = recvCell r (peer r c) := by
  obtain ⟨r, hr, h⟩ := tally_sum_pos _ _ h
  exact ⟨r, (Finset.mem_filter.mp hr).2, tally_pos h⟩
/-- Only barriers of partners carry barrier units. -/
theorem oweB_pos {n : ℕ} {c : Dev nD} {g : GSem nD τ sig} {u : Unit} (h : 0 < oweB n c g u) :
    ∃ k : Fin 5, g = barCell (flip k c) := by
  obtain ⟨k, -, h⟩ := tally_sum_pos _ _ h
  exact ⟨k, tally_pos h⟩

def L (g : GSem nD τ sig) : Finset Unit := if g.1.2 = .tc then {()} else ∅
/-- Barriers at 1, the receive cell of round `r` at `2 + r`, the rest at 0. -/
def lvS : SemLoc sig → ℕ
  | .reg _ => 1
  | .dma s => match recvOf s with | some r => 2 + r.val | none => 0
def lv (g : GSem nD τ sig) (_ : Unit) : ℕ := lvS g.2
/-- The level of a receive cell, -/
theorem lv_recv (r : Fin 10) (c : Dev nD) : lv (recvCell r c) () = 2 + r.val := by
  show (match recvOf (recvS r) with | some r => 2 + r.val | none => 0) = _
  rw [recvOf_recv]
/-- of a send cell, -/
theorem lv_send (r : Fin 10) (c : Dev nD) : lv (sendCell r c) () = 0 := by
  show (match recvOf (sendS r) with | some r => 2 + r.val | none => 0) = _
  rw [recvOf_send]
/-- of a barrier. -/
theorem lv_bar (c : Dev nD) : lv (barCell c) () = 1 := rfl

/-- Only a TensorCore's cells have a level; -/
theorem L_of_ne (g : GSem nD τ sig) (h : g.1.2 ≠ .tc) : L g = ∅ := if_neg h
/-- they have one. -/
theorem L_tc (c : Dev nD) (sm : SemLoc sig) : L ((c : Thread nD τ), sm) = {()} := if_pos rfl

/-- The levels, as the assertion every device keeps. -/
def levels : sProp 𝕄 := levAts L lv
instance levels_persistent : BI.Persistent (levels (F := F)) := by unfold levels; infer_instance
/-- Their definition, for use where it is closed. -/
theorem levels_eq : levels (F := F) = levAts L lv := rfl
attribute [irreducible] levels

/-- A device may wait on a cell below every receive cell it still owes. -/
theorem mayWait (c : Dev nD) (sm : SemLoc sig) (n : ℕ) (h : lvS sm < 2 + n) :
    levels (F := F) ⊢ MayWait (c : Thread nD τ) sm () (oweR n c) :=
  (Entails.of_eq levels_eq).trans <| MayOwe.of_cut (L := L) (lev := lv) (lvS sm) (fun p hp => by rw [Finset.mem_singleton.mp hp, L_tc]; exact Finset.mem_singleton_self _)
    (fun g u hg => by
      obtain ⟨r, -, rfl⟩ := oweR_pos hg
      rw [L_tc]; exact Finset.mem_singleton_self _)
    (fun p hp => by rw [Finset.mem_singleton.mp hp]; exact le_refl _)
    (fun g u hg => by
      obtain ⟨r, hr, rfl⟩ := oweR_pos hg
      cases u
      rw [lv_recv]; omega)

end Cert.Butterfly

end
-- ==== Proof.Round.lean ====
/- One round of the exchange, run: what a device holds before it, what it holds after, and the wait that takes the
   staging rows back. -/
module

public import proofs.«01_k».proof.Proof.Sched

@[expose] public section

noncomputable section

namespace Cert.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-! ## The cells -/

/-- A core's own exchange semaphores: the ten send ones, then the ten receive ones. -/
abbrev osem : Fin 10 ⊕ Fin 10 → SemLoc sig := Sum.elim (fun r => .dma (sendS r)) (fun r => .dma (recvS r))
/-- They are all different; -/
theorem osem_inj : Function.Injective osem := by decide
/-- none is the barrier. -/
theorem osem_ne_bar : ∀ k, osem k ≠ .reg barS := by decide

def barEmb : Dev nD ↪ GSem nD τ sig := ⟨fun c => barCell c, fun _ _ h => congrArg (fun g : GSem nD τ sig => g.1.1) h⟩
def ownEmb : Dev nD × (Fin 10 ⊕ Fin 10) ↪ GSem nD τ sig :=
  ⟨fun ck => ((ck.1 : Thread nD τ), osem ck.2), fun _ _ h =>
    Prod.ext (congrArg (fun g : GSem nD τ sig => g.1.1) h) (osem_inj (congrArg Prod.snd h))⟩
/-- All barrier cells; all exchange cells. -/
abbrev barCells : Finset (GSem nD τ sig) := Finset.univ.map barEmb
abbrev ownCells : Finset (GSem nD τ sig) := Finset.univ.map ownEmb

/-- Barrier cells, -/
theorem bar_mem (c : Dev nD) : barCell c ∈ (barCells ∪ ownCells : Finset (GSem nD τ sig)) :=
  Finset.mem_union_left _ (Finset.mem_map_of_mem barEmb (Finset.mem_univ c))
/-- send cells -/
theorem send_mem (r : Fin 10) (c : Dev nD) : sendCell r c ∈ (barCells ∪ ownCells : Finset (GSem nD τ sig)) :=
  Finset.mem_union_right _ (Finset.mem_map_of_mem ownEmb (Finset.mem_univ (c, Sum.inl r)))
/-- and receive cells are among them. -/
theorem recv_mem (r : Fin 10) (c : Dev nD) : recvCell r c ∈ (barCells ∪ ownCells : Finset (GSem nD τ sig)) :=
  Finset.mem_union_right _ (Finset.mem_map_of_mem ownEmb (Finset.mem_univ (c, Sum.inr r)))

variable (P : Dev nD → OutB F)

/-- What every device may consult: the invariant of every cell; that every barrier's round 0 is open; the levels. -/
def records (κ : GSem nD τ sig → ℕ) : sProp 𝕄 :=
  iprop((bigSep (barCells ∪ ownCells) fun g => cellInv ER (sched P) (κ g) g) ∗ (bigSep barCells fun g => reached ER g 0) ∗ levels)
instance records_persistent (κ : GSem nD τ sig → ℕ) : BI.Persistent (records P κ) := by unfold records; infer_instance

/-- Consulting a cell's invariant; -/
theorem records_inv (κ : GSem nD τ sig → ℕ) {g : GSem nD τ sig} (hg : g ∈ (barCells ∪ ownCells : Finset (GSem nD τ sig))) :
    records P κ ⊢ cellInv ER (sched P) (κ g) g := by
  unfold records
  exact sep_elim_left.trans (bigSep_elim hg)
/-- that a barrier's round 0 is open; -/
theorem records_bar (κ : GSem nD τ sig → ℕ) (c : Dev nD) : records P κ ⊢ reached ER (barCell c) 0 := by
  unfold records
  iintro ⟨-, H, -⟩
  iapply (show (bigSep barCells fun g => (reached ER g 0 : sProp 𝕄)) ⊢ reached ER (barCell c) 0 from
    bigSep_elim (Finset.mem_map_of_mem barEmb (Finset.mem_univ c))) $$ H
/-- the levels. -/
theorem records_lev (κ : GSem nD τ sig → ℕ) : records P κ ⊢ levels (F := F) := by
  unfold records
  iintro ⟨-, -, H⟩
  iexact H

/-! ## The states of a round -/

/-- A core owes `O`, whatever waits it has recorded. -/
def owesAny (c : Dev nD) (O : CellTallies nD τ sig Unit) : sProp 𝕄 := iprop(∃ W, owes (c : Thread nD τ) O W)
/-- Device `c`'s result, whole, holding `g`. -/
abbrev outPts (c : Dev nD) (g : OutB F) : sProp 𝕄 := outM.view.loc (c : Thread nD τ) ↦[Finset.univ]{fullShare} g

/-- A device's own means for round `r`, from launch: its positions, the duties it pays, the credit it waits with. -/
def seed (r : Fin 10) (c : Dev nD) : sProp 𝕄 :=
  iprop(atPos ER (sendCell r c) 0 ∅ 0 ∗ atPos ER (recvCell r c) 0 ∅ 0 ∗ reached ER (sendCell r c) 0
    ∗ dutyTok ER (sendCell r c) 0 0 ∗ dutyTok ER (recvCell r (peer r c)) 0 0 ∗ cred (tallyAt (recvCell r c) () (amt r)))
/-- Before the round: the means, and what the partner offered. -/
def ready (r : Fin 10) (c : Dev nD) : sProp 𝕄 := iprop(seed r c ∗ offer r (peer r c))
/-- After the round, the staging rows not yet back. -/
def flown (r : Fin 10) (c : Dev nD) : sProp 𝕄 :=
  iprop(atPos ER (sendCell r c) 0 ∅ 0 ∗ atPos ER (recvCell r c) 1 ∅ 0 ∗ cred (tallyAt (sendCell r c) () (amt r)) ∗ secAny (landM r) r c)
/-- After the round, the staging rows back. -/
def rested (r : Fin 10) (c : Dev nD) : sProp 𝕄 :=
  iprop(atPos ER (sendCell r c) 1 ∅ 0 ∗ atPos ER (recvCell r c) 1 ∅ 0 ∗ secAny (landM r) r c)

/-- A partner's partner is the device itself. -/
theorem peer_peer (r : Fin 10) (c : Dev nD) : peer r (peer r c) = c := flip_flip _ _
/-- What reaches the partner is what the device sent. -/
theorem come_peer (r : Fin 10) (c : Dev nD) : come P r (peer r c) = sent r c (content P r.val c) := by
  unfold come; rw [peer_peer]
/-- The level of a receive semaphore; -/
theorem lv_recvS (r : Fin 10) : lvS (.dma (recvS r)) = 2 + r.val := by
  show (match recvOf (recvS r) with | some r => 2 + r.val | none => 0) = _
  rw [recvOf_recv]
/-- of a send semaphore. -/
theorem lv_sendS (r : Fin 10) : lvS (.dma (sendS r)) = 0 := by
  show (match recvOf (sendS r) with | some r => 2 + r.val | none => 0) = _
  rw [recvOf_send]

/-- A device may wait for the copy of a round while it owes only those of later ones; -/
theorem wait_recv (κ : GSem nD τ sig → ℕ) (r : Fin 10) (c : Dev nD) :
    records P κ ⊢ MayWait (c : Thread nD τ) (.dma (recvS r)) () (oweR (r.val + 1) c) :=
  (records_lev P κ).trans (mayWait c _ _ (by rw [lv_recvS]; omega))
/-- and for the return of its rows whatever copies it owes. -/
theorem wait_send (κ : GSem nD τ sig → ℕ) (r : Fin 10) (c : Dev nD) (n : ℕ) :
    records P κ ⊢ MayWait (c : Thread nD τ) (.dma (sendS r)) () (oweR n c) :=
  (records_lev P κ).trans (mayWait c _ _ (by rw [lv_sendS]; omega))

/-- A section of known contents is a section. -/
theorem secAny_intro (M : Memref sig .tc .vmem S992x768 .bf16) (r : Fin 10) (c : Dev nD) (f : Buf (Elt F) ((sec M r).view.loc (c : Thread nD τ))) :
    secPts M r c f ⊢ (secAny M r c : sProp 𝕄) := by
  unfold secAny; iintro H; iexists f; iexact H
/-- A section overwritten by the partner's rows is landed. -/
theorem landed_intro (r : Fin 10) (c : Dev nD) (f : Buf (Elt F) ((sec (landM r) r).view.loc (c : Thread nD τ))) :
    secPts (landM r) r c ((sec (landM r) r).view.write (Elt F) f (come P r c) Finset.univ) ⊢ landed P r c := by
  unfold landed; iintro H; iexists ((sec (landM r) r).view.write (Elt F) f (come P r c) Finset.univ)
  isplitr
  · ipureintro; exact View.read_write_univ _ _
  · iexact H

set_option maxHeartbeats 800000 in
/-- The exchange of round `r`: the device's rows reach the partner, the partner's rows are here. -/
theorem exchange_run (κ : GSem nD τ sig → ℕ) (r : Fin 10) (c : Dev nD) (K : PUnit → sProp 𝕄) :
    iprop(records P κ ∗ outPts c (content P r.val c) ∗ ready r c ∗ secAny stageM r c ∗ owesAny c (oweR r.val c)
        ∗ ((outPts c (content P r.val c) ∗ atPos ER (sendCell r c) 0 ∅ 0 ∗ atPos ER (recvCell r c) 1 ∅ 0
            ∗ cred (tallyAt (sendCell r c) () (amt r)) ∗ landed P r c ∗ owesAny c (oweR (r.val + 1) c)) -∗ K ⟨⟩))
      ⊢ wp frame (wpE (defs₀ (F := F)) 𝒱₀ (c : Thread nD τ) none) Set.univ (exchange (F := F) r c) K := by
  unfold exchange ready seed offer secAny owesAny
  simp only [Prog.lift, Prog.bind_op, Prog.bind_ret]
  rw [← cpyDev_eq]
  iintro ⟨#HR, Hout, ⟨⟨HatS, HatV, #HrS, HtS, HtV, HcV⟩, ⟨%fl, Hland⟩, #HrV⟩, ⟨%fs, Hst⟩, ⟨%W, HO⟩, Hk⟩
  iapply (wp_load_rect 𝒱₀ (c : Thread nD τ) none Set.univ (m := outM) (r := ldRect r c) (S := Finset.univ) (Finset.subset_univ _)) $$ Hout
  iintro Hout
  iapply (wp_load_rect 𝒱₀ (c : Thread nD τ) none Set.univ (m := stageM) (r := secRect r) (Finset.Subset.refl _)) $$ Hst
  iintro Hst
  iapply (wp_store 𝒱₀ (c : Thread nD τ) none Set.univ (m := stageM) (r := secRect r) (by rw [View.setOn_univ])) $$ Hst
  iintro Hst
  iapply (Rounds.wp_send_pointsTo 𝒱₀ ER (sched P) (c : Thread nD τ) none (c' := (cpyDev r c : Thread nD τ)) (src := sec stageM r) (dst := sec (landM r) r)
      (sS := .dma (sendS r)) (sem := .dma (recvS r)) (q := fullShare)
      (κ₁ := κ (sendCell r c)) (κ₂ := κ (recvCell r (cpyDev r c)))
      (r₁ := 0) (r₂ := 0) (d₁ := 0) (d₂ := 0) (fs := (stageM.access (secRect r)).write (Elt F) fs (sent r c (content P r.val c)) Finset.univ) (fd := fl)
      (by rw [duties_send]; exact Finset.mem_singleton_self _) (by rw [duties_recv]; exact Finset.mem_singleton_self _)
      () () (amt r) (amt_land r) (amount_send P r c 0) (amount_recv P r (cpyDev r c) 0) (O₀ := oweR r.val c) (oweR (r.val + 1) c) (by rw [cpyDev_eq]; exact oweR_step r c) (W := W)
      (by rw [payload_send]; exact secAny_intro stageM r c _)
      (by rw [payload_recv, View.read_write_univ, cpyDev_eq, ← come_peer]; exact landed_intro P r (peer r c) fl)) $$ [Hst Hland HO HtS HtV]
  · isplitr; · iapply (records_inv P κ (send_mem r c)); iexact HR
    isplitr; · iapply (records_inv P κ (recv_mem r (cpyDev r c))); iexact HR
    isplitl [Hst]; · iexact Hst
    isplitl [Hland]; · iexact Hland
    isplitl [HO]; · iexact HO
    isplitl [HtS]; · iexact HtS
    isplitr; · iexact HrS
    isplitl [HtV]; · iexact HtV
    iexact HrV
  iintro ⟨HcS, HO⟩
  iapply (Rounds.wp_wait_rest_token 𝒱₀ ER (sched P) (c : Thread nD τ) none (κ := κ (recvCell r c))
      (wpE_waitDma2_eq (src := sec stageM r) (dst := sec (landM r) r) 𝒱₀ (c : Thread nD τ) none Set.univ) (Set.mem_univ _) () (O := oweR (r.val + 1) c) (W := W) (R := 0) (m := 0) (T := ∅)
      ((Nat.zero_add _).trans ((amt_land r).trans (expect_recv P r c).symm))) $$ [HcV HO HatV]
  · isplitr; · iapply (records_inv P κ (recv_mem r c)); iexact HR
    isplitl [HcV]; · rw [amt_land]; iexact HcV
    isplitl [HO]; · iexact HO
    isplitr
    · iapply (wait_recv P κ r c); iexact HR
    iexact HatV
  iintro ⟨HO, HatV, -, Hpay⟩
  ihave Hl := (Entails.of_eq (rest_recv P r c)) $$ Hpay
  rw [wp_ret]
  imodintro
  iapply Hk
  isplitl [Hout]; · iexact Hout
  isplitl [HatS]; · iexact HatS
  isplitl [HatV]; · iexact HatV
  isplitl [HcS]; · iexact HcS
  isplitl [Hl]; · iexact Hl
  iexists _; iexact HO

/-- The end of round `r`: the result takes what came. -/
theorem finish_run (r : Fin 10) (c : Dev nD) (K : PUnit → sProp 𝕄) :
    iprop(outPts c (content P r.val c) ∗ landed P r c ∗ ((outPts c (content P (r.val + 1) c) ∗ secAny (landM r) r c) -∗ K ⟨⟩))
      ⊢ wp frame (wpE (defs₀ (F := F)) 𝒱₀ (c : Thread nD τ) none) Set.univ (finish (F := F) r c) K := by
  rw [content_succ]
  unfold finish landed secAny step
  iintro ⟨Hout, ⟨%f, %hf, Hl⟩, Hk⟩
  split
  · unfold gather
    simp only [Prog.lift, Prog.bind_op, Prog.bind_ret]
    iapply (wp_load_rect 𝒱₀ (c : Thread nD τ) none Set.univ (m := outM) (r := stRect r c) (S := Finset.univ) (Finset.subset_univ _)) $$ Hout
    iintro Hout
    iapply (wp_load_rect 𝒱₀ (c : Thread nD τ) none Set.univ (m := landM r) (r := secRect r) (Finset.Subset.refl _)) $$ Hl
    iintro Hl
    iapply (wp_load_rect 𝒱₀ (c : Thread nD τ) none Set.univ (m := outM) (r := stRect r c) (S := Finset.univ) (Finset.subset_univ _)) $$ Hout
    iintro Hout
    iapply (wp_store 𝒱₀ (c : Thread nD τ) none Set.univ (m := outM) (r := stRect r c) (S := Finset.univ) (Finset.subset_univ _)) $$ Hout
    iintro Hout
    rw [wp_ret]
    imodintro
    iapply Hk
    isplitl [Hout]
    · rw [← hf]; iexact Hout
    · iexists f; iexact Hl
  · unfold spread
    simp only [Prog.lift, Prog.bind_op, Prog.bind_ret]
    iapply (wp_load_rect 𝒱₀ (c : Thread nD τ) none Set.univ (m := landM r) (r := secRect r) (Finset.Subset.refl _)) $$ Hl
    iintro Hl
    iapply (wp_load_rect 𝒱₀ (c : Thread nD τ) none Set.univ (m := outM) (r := stRect r c) (S := Finset.univ) (Finset.subset_univ _)) $$ Hout
    iintro Hout
    iapply (wp_store 𝒱₀ (c : Thread nD τ) none Set.univ (m := outM) (r := stRect r c) (S := Finset.univ) (Finset.subset_univ _)) $$ Hout
    iintro Hout
    rw [wp_ret]
    imodintro
    iapply Hk
    isplitl [Hout]
    · rw [← hf]; iexact Hout
    · iexists f; iexact Hl

/-- One round: the result goes from its contents before round `r` to those after it. -/
theorem round_run (κ : GSem nD τ sig → ℕ) (r : Fin 10) (c : Dev nD) (K : PUnit → sProp 𝕄) :
    iprop(records P κ ∗ outPts c (content P r.val c) ∗ ready r c ∗ secAny stageM r c ∗ owesAny c (oweR r.val c)
        ∗ ((outPts c (content P (r.val + 1) c) ∗ flown r c ∗ owesAny c (oweR (r.val + 1) c)) -∗ K ⟨⟩))
      ⊢ wp frame (wpE (defs₀ (F := F)) 𝒱₀ (c : Thread nD τ) none) Set.univ (do exchange (F := F) r c; finish r c) K := by
  rw [wp_bind]
  iintro ⟨#HR, Hout, Hr, Hs, HO, Hk⟩
  iapply (exchange_run P κ r c)
  isplitr; · iexact HR
  isplitl [Hout]; · iexact Hout
  isplitl [Hr]; · iexact Hr
  isplitl [Hs]; · iexact Hs
  isplitl [HO]; · iexact HO
  iintro ⟨Hout, HatS, HatV, HcS, Hl, HO⟩
  iapply (finish_run P r c)
  isplitl [Hout]; · iexact Hout
  isplitl [Hl]; · iexact Hl
  iintro ⟨Hout, Hl⟩
  iapply Hk
  isplitl [Hout]; · iexact Hout
  isplitr [HO]
  · unfold flown
    isplitl [HatS]; · iexact HatS
    isplitl [HatV]; · iexact HatV
    isplitl [HcS]; · iexact HcS
    iexact Hl
  · iexact HO

/-- The wait for round `r`'s copy to have left: the staging rows are back. -/
theorem drain_run (κ : GSem nD τ sig → ℕ) (r : Fin 10) (c : Dev nD) (n : ℕ) (K : PUnit → sProp 𝕄) :
    iprop(records P κ ∗ flown r c ∗ owesAny c (oweR n c) ∗ ((rested r c ∗ secAny stageM r c ∗ owesAny c (oweR n c)) -∗ K ⟨⟩))
      ⊢ wp frame (wpE (defs₀ (F := F)) 𝒱₀ (c : Thread nD τ) none) Set.univ (drain (F := F) r) K := by
  unfold drain flown owesAny
  simp only [Prog.lift]
  iintro ⟨#HR, ⟨HatS, HatV, HcS, Hl⟩, ⟨%W, HO⟩, Hk⟩
  iapply (Rounds.wp_wait_rest_token 𝒱₀ ER (sched P) (c : Thread nD τ) none (κ := κ (sendCell r c))
      (wpE_waitDma2_eq (src := sec (landM r) r) (dst := sec stageM r) 𝒱₀ (c : Thread nD τ) none Set.univ) (Set.mem_univ _) () (O := oweR n c) (W := W) (R := 0) (m := 0) (T := ∅)
      ((Nat.zero_add _).trans ((amt_stage r).trans (expect_send P r c).symm))) $$ [HcS HO HatS]
  · isplitr; · iapply (records_inv P κ (send_mem r c)); iexact HR
    isplitl [HcS]; · iexact HcS
    isplitl [HO]; · iexact HO
    isplitr
    · iapply (wait_send P κ r c n); iexact HR
    iexact HatS
  iintro ⟨HO, HatS, -, Hpay⟩
  ihave Hs := (Entails.of_eq (rest_send P r c)) $$ Hpay
  rw [wp_ret]
  imodintro
  iapply Hk
  unfold rested
  isplitr [Hs HO]
  · isplitl [HatS]; · iexact HatS
    isplitl [HatV]; · iexact HatV
    iexact Hl
  isplitl [Hs]; · iexact Hs
  iexists _; iexact HO

end Cert.Butterfly

end
-- ==== Proof.Talk.lean ====
/- The greeting, and the ten rounds in order. -/
module

public import proofs.«01_k».proof.Proof.Round
public import Idealize.ShloMosaic.Lib.Ring

@[expose] public section

noncomputable section

namespace Cert.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (P : Dev nD → OutB F)

/-! ## Five numbered resources, spent in order -/

/-- The resources numbered `n` and above; those below `n`. -/
def fromN (n : ℕ) (Φ : Fin 5 → sProp 𝕄) : sProp 𝕄 := bigSep (Finset.univ.filter fun k : Fin 5 => n ≤ k.val) Φ
def belowN (n : ℕ) (Φ : Fin 5 → sProp 𝕄) : sProp 𝕄 := bigSep (Finset.univ.filter fun k : Fin 5 => k.val < n) Φ

/-- From 0 on: all; -/
theorem fromN_zero (Φ : Fin 5 → sProp 𝕄) : fromN 0 Φ = bigSep Finset.univ Φ := by
  unfold fromN; rw [Finset.filter_true_of_mem fun k _ => Nat.zero_le _]
/-- from 5 on: none; -/
theorem fromN_end (Φ : Fin 5 → sProp 𝕄) : fromN 5 Φ = (BI.emp : sProp 𝕄) := by
  unfold fromN; rw [Finset.filter_false_of_mem (fun k _ => by have := k.isLt; omega), bigSep_empty]
/-- from `k` on: one, and those after it. -/
theorem fromN_step (k : Fin 5) (Φ : Fin 5 → sProp 𝕄) : fromN k.val Φ = iprop(Φ k ∗ fromN (k.val + 1) Φ) := by
  unfold fromN; rw [filter_from, bigSep_insert (by simp)]; rfl
/-- Below 0: none; -/
theorem belowN_zero (Φ : Fin 5 → sProp 𝕄) : belowN 0 Φ = (BI.emp : sProp 𝕄) := by
  unfold belowN; rw [Finset.filter_false_of_mem (fun k _ => by omega), bigSep_empty]
/-- below 5: all; -/
theorem belowN_end (Φ : Fin 5 → sProp 𝕄) : belowN 5 Φ = bigSep Finset.univ Φ := by
  unfold belowN; rw [Finset.filter_true_of_mem fun k _ => k.isLt]
/-- one more. -/
theorem belowN_step (k : Fin 5) (Φ : Fin 5 → sProp 𝕄) : belowN (k.val + 1) Φ = iprop(Φ k ∗ belowN k.val Φ) := by
  unfold belowN
  rw [show (Finset.univ.filter fun i : Fin 5 => i.val < k.val + 1) = insert k (Finset.univ.filter fun i : Fin 5 => i.val < k.val) from by
    ext i; simp only [Finset.mem_filter, Finset.mem_univ, true_and, Finset.mem_insert, Fin.ext_iff]; omega, bigSep_insert (by simp)]; rfl

/-! ## The greeting -/

/-- What the device hands its partner over bit `k`: the token of that barrier duty, and its offers for the two rounds over bit `k`. -/
def hand (c : Dev nD) (k : Fin 5) : sProp 𝕄 := iprop(dutyTok ER (barCell (flip k c)) 0 k ∗ offer (lo k) c ∗ offer (hiOf k) c)

/-- The first `n` signals: each pays one barrier unit and hands the partner its offers. -/
theorem signals_run (κ : GSem nD τ sig → ℕ) (c : Dev nD) (n : ℕ) (hn : n ≤ 5) (K : PUnit → sProp 𝕄) :
    iprop(records P κ ∗ owesAny c (owe0 c) ∗ fromN 0 (hand c) ∗ ((owesAny c (oweR 0 c + oweB n c) ∗ fromN n (hand c)) -∗ K ⟨⟩))
      ⊢ wp frame (wpE (defs₀ (F := F)) 𝒱₀ (c : Thread nD τ) none) Set.univ (signals (F := F) c n hn) K := by
  induction n generalizing K with
  | zero =>
    unfold signals owe0
    rw [show (pure PUnit.unit : Prog (TpuEff nD τ sig (Elt F) Λ₀ .tc) PUnit) = .ret ⟨⟩ from rfl, wp_ret]
    iintro ⟨#HR, HO, Hh, Hk⟩
    imodintro
    iapply Hk
    isplitl [HO] <;> iassumption
  | succ n ih =>
    unfold signals
    rw [wp_bind]
    iintro ⟨#HR, HO, Hh, Hk⟩
    iapply (ih (Nat.le_of_succ_le hn))
    isplitr; · iexact HR
    isplitl [HO]; · iexact HO
    isplitl [Hh]; · iexact Hh
    rw [fromN_step ⟨n, hn⟩]
    unfold owesAny hand
    iintro ⟨⟨%W, HO⟩, ⟨⟨Ht, Ho⟩, Hh⟩⟩
    simp only [Prog.lift]
    rw [sigDev_eq]
    iapply (Rounds.wp_signal 𝒱₀ ER (sched P) (c : Thread nD τ) none (dst := (flip ⟨n, hn⟩ c : Thread nD τ)) (sem := barS) (r := 0) (d := ⟨n, hn⟩)
        (κ := κ (barCell (flip ⟨n, hn⟩ c))) (by rw [duties_bar]; exact Finset.mem_univ _) (amount_bar P (flip ⟨n, hn⟩ c) ⟨n, hn⟩) ()
        (O₀ := oweR 0 c + oweB n c) (oweR 0 c + oweB (n + 1) c) (by rw [add_assoc]; exact congrArg (oweR 0 c + ·) (oweB_step ⟨n, hn⟩ c)))
      $$ [HO Ht Ho]
    · isplitr; · iapply (records_inv P κ (bar_mem (flip ⟨n, hn⟩ c))); iexact HR
      isplitl [HO]; · iexact HO
      isplitl [Ht]; · iexact Ht
      isplitl [Ho]
      · rw [payload_bar]; unfold barPay; rw [flip_flip]; iexact Ho
      · iapply (records_bar P κ); iexact HR
    iintro HO
    rw [wp_ret]
    imodintro
    iapply Hk
    isplitl [HO]; · iexists W; iexact HO
    iexact Hh

/-- A device may wait at the barrier while it owes only copies. -/
theorem wait_bar (κ : GSem nD τ sig → ℕ) (c : Dev nD) : records P κ ⊢ MayWait (c : Thread nD τ) (.reg barS) () (oweR 0 c) :=
  (records_lev P κ).trans (mayWait c _ _ (by decide))

/-- The greeting: a device gives its partners their landing sections and gets theirs. -/
theorem greet_run (κ : GSem nD τ sig → ℕ) (c : Dev nD) (K : PUnit → sProp 𝕄) :
    iprop(records P κ ∗ owesAny c (owe0 c) ∗ bigSep Finset.univ (hand c) ∗ atPos ER (barCell c) 0 ∅ 0 ∗ cred (tallyAt (barCell c) () 5)
        ∗ ((owesAny c (oweR 0 c) ∗ atPos ER (barCell c) 1 ∅ 0 ∗ bigSep Finset.univ (barPay (F := F) c)) -∗ K ⟨⟩))
      ⊢ wp frame (wpE (defs₀ (F := F)) 𝒱₀ (c : Thread nD τ) none) Set.univ (greet (F := F) c) K := by
  unfold greet
  rw [wp_bind]
  iintro ⟨#HR, HO, Hh, Hat, Hc, Hk⟩
  iapply (signals_run P κ c 5 (le_refl 5))
  isplitr; · iexact HR
  isplitl [HO]; · iexact HO
  isplitl [Hh]; · rw [fromN_zero]; iexact Hh
  rw [oweB_end, add_zero]
  unfold owesAny
  iintro ⟨⟨%W, HO⟩, -⟩
  simp only [Prog.lift]
  iapply (Rounds.wp_wait_rest_token 𝒱₀ ER (sched P) (c : Thread nD τ) none (κ := κ (barCell c))
      (wpE_semWait_eq 𝒱₀ (c : Thread nD τ) none Set.univ) (Set.mem_univ _) () (O := oweR 0 c) (W := W) (R := 0) (m := 0) (T := ∅)
      ((Nat.zero_add 5).trans (expect_bar P c).symm)) $$ [Hc HO Hat]
  · isplitr; · iapply (records_inv P κ (bar_mem c)); iexact HR
    isplitl [Hc]; · iexact Hc
    isplitl [HO]; · iexact HO
    isplitr; · iapply (wait_bar P κ c); iexact HR
    iexact Hat
  iintro ⟨HO, Hat, -, Hpay⟩
  ihave Hp := (Entails.of_eq (rest_bar P c)) $$ Hpay
  rw [wp_ret]
  imodintro
  iapply Hk
  isplitl [HO]; · iexists _; iexact HO
  isplitl [Hat]; · iexact Hat
  iexact Hp

/-! ## Rounds in order -/

/-- The first `n` rounds of a kind whose rounds are `base`, `base + 1`, …. -/
theorem rounds_run (κ : GSem nD τ sig → ℕ) (e : Fin 5 → Fin 10) (base : ℕ) (he : ∀ k, (e k).val = base + k.val) (c : Dev nD) (n : ℕ) (hn : n ≤ 5)
    (K : PUnit → sProp 𝕄) :
    iprop(records P κ ∗ outPts c (content P base c) ∗ fromN 0 (fun k => iprop(ready (e k) c ∗ secAny stageM (e k) c)) ∗ owesAny c (oweR base c)
        ∗ ((outPts c (content P (base + n) c) ∗ fromN n (fun k => iprop(ready (e k) c ∗ secAny stageM (e k) c)) ∗ belowN n (fun k => flown (e k) c)
            ∗ owesAny c (oweR (base + n) c)) -∗ K ⟨⟩))
      ⊢ wp frame (wpE (defs₀ (F := F)) 𝒱₀ (c : Thread nD τ) none) Set.univ (rounds (F := F) e c n hn) K := by
  induction n generalizing K with
  | zero =>
    unfold rounds
    rw [show (pure PUnit.unit : Prog (TpuEff nD τ sig (Elt F) Λ₀ .tc) PUnit) = .ret ⟨⟩ from rfl, wp_ret, belowN_zero]
    iintro ⟨-, Hout, Hh, HO, Hk⟩
    imodintro
    iapply Hk
    isplitl [Hout]; · iexact Hout
    isplitl [Hh]; · iexact Hh
    isplitr; · iempintro
    iexact HO
  | succ n ih =>
    unfold rounds
    rw [wp_bind]
    iintro ⟨#HR, Hout, Hh, HO, Hk⟩
    iapply (ih (Nat.le_of_succ_le hn))
    isplitr; · iexact HR
    isplitl [Hout]; · iexact Hout
    isplitl [Hh]; · iexact Hh
    isplitl [HO]; · iexact HO
    rw [fromN_step ⟨n, hn⟩, belowN_step ⟨n, hn⟩]
    have hb : base + n = (e ⟨n, hn⟩).val := (he ⟨n, hn⟩).symm
    rw [show base + (n + 1) = (e ⟨n, hn⟩).val + 1 from by rw [← hb]; rfl, hb]
    iintro ⟨Hout, ⟨⟨Hr, Hs⟩, Hh⟩, Hf, HO⟩
    iapply (round_run P κ (e ⟨n, hn⟩) c)
    isplitr; · iexact HR
    isplitl [Hout]; · iexact Hout
    isplitl [Hr]; · iexact Hr
    isplitl [Hs]; · iexact Hs
    isplitl [HO]; · iexact HO
    iintro ⟨Hout, Hfl, HO⟩
    iapply Hk
    isplitl [Hout]; · iexact Hout
    isplitl [Hh]; · iexact Hh
    isplitr [HO]
    · isplitl [Hfl] <;> iassumption
    · iexact HO

/-- The waits for the first `n` copies of a kind. -/
theorem drains_run (κ : GSem nD τ sig → ℕ) (e : Fin 5 → Fin 10) (c : Dev nD) (o : ℕ) (n : ℕ) (hn : n ≤ 5) (K : PUnit → sProp 𝕄) :
    iprop(records P κ ∗ fromN 0 (fun k => flown (e k) c) ∗ owesAny c (oweR o c)
        ∗ ((fromN n (fun k => flown (e k) c) ∗ belowN n (fun k => iprop(rested (e k) c ∗ secAny stageM (e k) c)) ∗ owesAny c (oweR o c)) -∗ K ⟨⟩))
      ⊢ wp frame (wpE (defs₀ (F := F)) 𝒱₀ (c : Thread nD τ) none) Set.univ (drains (F := F) e n hn) K := by
  induction n generalizing K with
  | zero =>
    unfold drains
    rw [show (pure PUnit.unit : Prog (TpuEff nD τ sig (Elt F) Λ₀ .tc) PUnit) = .ret ⟨⟩ from rfl, wp_ret, belowN_zero]
    iintro ⟨-, Hh, HO, Hk⟩
    imodintro
    iapply Hk
    isplitl [Hh]; · iexact Hh
    isplitr; · iempintro
    iexact HO
  | succ n ih =>
    unfold drains
    rw [wp_bind]
    iintro ⟨#HR, Hh, HO, Hk⟩
    iapply (ih (Nat.le_of_succ_le hn))
    isplitr; · iexact HR
    isplitl [Hh]; · iexact Hh
    isplitl [HO]; · iexact HO
    rw [fromN_step ⟨n, hn⟩, belowN_step ⟨n, hn⟩]
    iintro ⟨⟨Hfl, Hh⟩, Hb, HO⟩
    iapply (drain_run P κ (e ⟨n, hn⟩) c o)
    isplitr; · iexact HR
    isplitl [Hfl]; · iexact Hfl
    isplitl [HO]; · iexact HO
    iintro ⟨Hr, Hs, HO⟩
    iapply Hk
    isplitl [Hh]; · iexact Hh
    isplitr [HO]
    · isplitl [Hr Hs]
      · isplitl [Hr] <;> iassumption
      · iexact Hb
    · iexact HO

/-- Five rounds of a kind and the waits for their copies. -/
theorem phase_run (κ : GSem nD τ sig → ℕ) (e : Fin 5 → Fin 10) (base : ℕ) (he : ∀ k, (e k).val = base + k.val) (c : Dev nD) (K : PUnit → sProp 𝕄) :
    iprop(records P κ ∗ outPts c (content P base c) ∗ (bigSep Finset.univ fun k => iprop(ready (e k) c ∗ secAny stageM (e k) c)) ∗ owesAny c (oweR base c)
        ∗ ((outPts c (content P (base + 5) c) ∗ (bigSep Finset.univ fun k => iprop(rested (e k) c ∗ secAny stageM (e k) c)) ∗ owesAny c (oweR (base + 5) c)) -∗ K ⟨⟩))
      ⊢ wp frame (wpE (defs₀ (F := F)) 𝒱₀ (c : Thread nD τ) none) Set.univ (do rounds (F := F) e c 5 (le_refl 5); drains e 5 (le_refl 5)) K := by
  rw [wp_bind]
  iintro ⟨#HR, Hout, Hh, HO, Hk⟩
  iapply (rounds_run P κ e base he c 5 (le_refl 5))
  isplitr; · iexact HR
  isplitl [Hout]; · iexact Hout
  isplitl [Hh]; · rw [fromN_zero]; iexact Hh
  isplitl [HO]; · iexact HO
  iintro ⟨Hout, -, Hf, HO⟩
  iapply (drains_run P κ e c (base + 5) 5 (le_refl 5))
  isplitr; · iexact HR
  isplitl [Hf]; · iapply (Entails.of_eq ((belowN_end (F := F) _).trans (fromN_zero _).symm)) $$ Hf
  isplitl [HO]; · iexact HO
  rw [belowN_end]
  iintro ⟨-, Hb, HO⟩
  iapply Hk
  isplitl [Hout]; · iexact Hout
  isplitl [Hb] <;> iassumption

/-! ## A buffer and its sections -/

/-- The sections of a kind tile the exchange buffer. -/
theorem sec_mem (r : Fin 10) (i : S992x768.Idx) : i ∈ (secRect r).set ↔ off r ≤ (i 0).val ∧ (i 0).val < off r + len r := by
  rw [Rect.mem_set_unit]
  constructor
  · intro h; exact h 0
  · intro h a
    match a with
    | ⟨0, _⟩ => exact h
    | ⟨1, _⟩ => exact ⟨Nat.zero_le _, by have := (i 1).isLt; exact (Nat.zero_add _).symm ▸ this⟩

/-- The five sections of either half of the rounds cover a buffer's rows -/
theorem tile (e : Fin 5 → Fin 10) (he : e = lo ∨ e = hi) (x : ℕ) (hx : x < 992) :
    ∃ k, off (e k) ≤ x ∧ x < off (e k) + len (e k) := by
  rcases he with rfl | rfl <;> revert x <;> decide +kernel
/-- and do not meet. -/
theorem apart (e : Fin 5 → Fin 10) (he : e = lo ∨ e = hi) : ∀ k k', k ≠ k' → off (e k) + len (e k) ≤ off (e k') ∨ off (e k') + len (e k') ≤ off (e k) := by
  rcases he with rfl | rfl <;> decide

/-- The section's elements, as elements of the buffer. -/
abbrev secSet (M : Memref sig .tc .vmem S992x768 .bf16) (r : Fin 10) : Finset M.view.ty.Idx := (sec M r).view.set
/-- A section's elements. -/
theorem sec_set (M : Memref sig .tc .vmem S992x768 .bf16) (r : Fin 10) : secSet M r = (secRect r).set.map M.view.emb :=
  View.set_slice _ _

/-- The exchange buffer `M`, whole, is its five sections of a kind. -/
theorem sections_of (M : Memref sig .tc .vmem S992x768 .bf16) (hM : M.view.set = Finset.univ) (e : Fin 5 → Fin 10) (he : e = lo ∨ e = hi) (c : Dev nD) :
    (∀ k k', k ≠ k' → Disjoint (secSet M (e k)) (secSet M (e k')))
      ∧ (Finset.univ.biUnion fun k => secSet M (e k)) = Finset.univ := by
  constructor
  · intro k k' hk
    rw [sec_set, sec_set, Finset.disjoint_map, Finset.disjoint_left]
    intro i hi hi'
    rw [sec_mem] at hi hi'
    have := apart e he k k' hk
    omega
  · ext j
    simp only [Finset.mem_biUnion, Finset.mem_univ, true_and, iff_true]
    have hj : j ∈ M.view.set := hM ▸ Finset.mem_univ j
    obtain ⟨i, -, rfl⟩ := Finset.mem_map.mp hj
    obtain ⟨k, hk⟩ := tile e he (i 0).val (i 0).isLt
    exact ⟨k, by rw [sec_set]; exact Finset.mem_map_of_mem _ ((sec_mem _ _).mpr hk)⟩

/-- The exchange buffer `M` of device `c`, whole, at contents not chosen. -/
def bufAny (M : Memref sig .tc .vmem S992x768 .bf16) (c : Dev nD) : sProp 𝕄 :=
  iprop(∃ f : Buf (Elt F) (M.view.loc (c : Thread nD τ)), M.view.loc (c : Thread nD τ) ↦[Finset.univ]{fullShare} f)

/-- A section of known contents is a section of some contents. -/
theorem secAny_intro' (M : Memref sig .tc .vmem S992x768 .bf16) (r : Fin 10) (c : Dev nD) (f : Buf (Elt F) ((sec M r).view.loc (c : Thread nD τ))) :
    secPts M r c f ⊢ (iprop(∃ f, secPts M r c f) : sProp 𝕄) := by
  iintro H; iexists f; iexact H

/-- A buffer cut into the five sections; -/
theorem cut_buf (M : Memref sig .tc .vmem S992x768 .bf16) (hM : M.view.set = Finset.univ) (e : Fin 5 → Fin 10) (he : e = lo ∨ e = hi) (c : Dev nD) :
    bufAny M c ⊢ (bigSep Finset.univ fun k => secAny M (e k) c : sProp 𝕄) := by
  obtain ⟨hd, hc⟩ := sections_of M hM e he c
  unfold bufAny secAny
  iintro ⟨%f, H⟩
  ihave H' := (Entails.of_eq (Ring.pointsTo_blocks (ℓ := M.view.loc (c : Thread nD τ)) (fun k => secSet M (e k)) hd hc f)) $$ H
  iapply (show (bigSep Finset.univ fun k : Fin 5 => (M.view.loc (c : Thread nD τ) ↦[secSet M (e k)]{fullShare} f : sProp 𝕄))
    ⊢ bigSep Finset.univ fun k => iprop(∃ f, secPts M (e k) c f) from bigSep_mono fun k _ => secAny_intro' M (e k) c f) $$ H'

/-- the five sections joined to the buffer. -/
theorem join_buf (M : Memref sig .tc .vmem S992x768 .bf16) (hM : M.view.set = Finset.univ) (e : Fin 5 → Fin 10) (he : e = lo ∨ e = hi) (c : Dev nD) :
    (bigSep Finset.univ fun k => secAny M (e k) c : sProp 𝕄) ⊢ bufAny M c := by
  obtain ⟨hd, hc⟩ := sections_of M hM e he c
  unfold bufAny secAny
  rw [← fromN_zero (F := F), show (0 : ℕ) = (0 : Fin 5).val from rfl, fromN_step (F := F) 0]
  iintro ⟨⟨%f, H⟩, Hr⟩
  iapply (Ring.pointsTo_blocks_join_exists (ℓ := M.view.loc (c : Thread nD τ)) (fun k => secSet M (e k)) hd hc f)
  iapply (Entails.of_eq (fromN_zero (F := F) fun k => iprop(∃ f, secPts M (e k) c f)))
  iapply (Entails.of_eq (fromN_step (F := F) 0 fun k => iprop(∃ f, secPts M (e k) c f)).symm)
  isplitl [H]
  · iexists f; iexact H
  · iexact Hr

end Cert.Butterfly

end
-- ==== Proof.Compute.lean ====
/- The local computation: what the eight heads of each batch leave in the result, and the runs of those pieces of the body. -/
module

public import proofs.«01_k».proof.Proof.Talk

@[expose] public section

noncomputable section

namespace Cert.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## What the computation leaves -/

abbrev XB (F : FTy → Type) : Type := (cc0_stg0_0 : Ref sig .tc).ty.Contents (Elt F)
abbrev WqB (F : FTy → Type) : Type := (cc0_stg1_0 : Ref sig .tc).ty.Contents (Elt F)
abbrev KB (F : FTy → Type) : Type := (cc0_stg2_0 : Ref sig .tc).ty.Contents (Elt F)
abbrev VB (F : FTy → Type) : Type := (cc0_stg3_0 : Ref sig .tc).ty.Contents (Elt F)
abbrev WoB (F : FTy → Type) : Type := (cc0_stg4_0 : Ref sig .tc).ty.Contents (Elt F)

/-- A device's five inputs. -/
structure Ins (F : FTy → Type) where
  x : XB F
  wq : WqB F
  k : KB F
  v : VB F
  wo : WoB F

/-- The whole of the query weights, as the kernel reads them. -/
abbrev wqRect : Rect S768x512 := Rect.unit (s := S768x512) ![0, 0] S768x512.size inb_S768x512_S768x512_0_0

/-- The queries of batch `b`. -/
def queryOf (I : Ins F) (b : ℕ) (hb : b < 2) : FVec F S512x512 .f32 :=
  queries ((xM.access (xRect b hb)).read (Elt F) I.x) ((wqM.access wqRect).read (Elt F) I.wq)

/-- The sum over the first `n` heads of batch `b`, from the queries. -/
def sumHeads (I : Ins F) (b : ℕ) (hb : b < 2) (q : FVec F S512x512 .f32) : (n : ℕ) → n ≤ 8 → FVec F S512x768 .f32
  | 0, _ => broadcast S512x768 (Scalar.ofBits .f32 0x00000000#32)
  | n + 1, hn => headStep n hn q (sumHeads I b hb q n (Nat.le_of_succ_le hn)) ((kM.access (kRect b n hb hn)).read (Elt F) I.k)
      ((vM.access (vRect b n hb hn)).read (Elt F) I.v) ((woM.access (woRect n hn)).read (Elt F) I.wo)

/-- What batch `b` contributes: its 512 rows of the partial result. -/
def batchOf (I : Ins F) (b : ℕ) (hb : b < 2) : FVec F S512x768 .f32 := sumHeads I b hb (queryOf I b hb) 8 (le_refl 8)

/-- The result's contents after the batch's store. -/
def putBatch (I : Ins F) (b : ℕ) (hb : b < 2) (g : OutB F) : OutB F :=
  (outM.access (xRect b hb)).write (Elt F) g (batchOf I b hb) Finset.univ

/-- A device's partial result: both batches stored. What was there before does not matter (`partial_any`). -/
def partialOf (I : Ins F) : OutB F := putBatch I 1 (by decide) (putBatch I 0 (by decide) I.x)

/-- A store through a rectangle of the result changes the rectangle's elements, -/
theorem put_in (R : Rect S1024x768) (g : OutB F) (a : R.shape.Idx → Elt F .f32) (x : R.shape.Idx) :
    (outM.access R).write (Elt F) g a Finset.univ (R.emb x) = a x :=
  View.write_emb_of_mem (v := outM.access R) (Val := Elt F) g a (M := Finset.univ) (x := x) (Finset.mem_univ _)
/-- and no others. -/
theorem put_out (R : Rect S1024x768) (g : OutB F) (a : R.shape.Idx → Elt F .f32) {i : S1024x768.Idx} (h : i ∉ R.set) :
    (outM.access R).write (Elt F) g a Finset.univ i = g i := by
  refine View.write_of_not_mem (v := outM.access R) (Val := Elt F) g a Finset.univ (i := i) ?_
  rw [View.setOn_univ, View.set_slice]
  intro h'
  obtain ⟨j, hj, hji⟩ := Finset.mem_map.mp h'
  exact h (by have : j = i := hji; exact this ▸ hj)

/-- Which elements are a batch's. -/
theorem x_mem (b : ℕ) (hb : b < 2) (i : S1024x768.Idx) : i ∈ (xRect b hb).set ↔ 512 * b ≤ (i 0).val ∧ (i 0).val < 512 * b + 512 := by
  rw [Rect.mem_set_unit]
  constructor
  · intro h; exact h 0
  · intro h a
    match a with
    | ⟨0, _⟩ => exact h
    | ⟨1, _⟩ => exact ⟨Nat.zero_le _, by have := (i 1).isLt; exact (Nat.zero_add _).symm ▸ this⟩

/-- The two batches cover the result: it does not depend on what was there. -/
theorem partial_any (I : Ins F) (g : OutB F) : putBatch I 1 (by decide) (putBatch I 0 (by decide) g) = partialOf I := by
  unfold partialOf putBatch
  funext i
  by_cases h1 : i ∈ (xRect 1 (by decide)).set
  · rw [← Rect.map_emb_univ] at h1
    obtain ⟨x, -, rfl⟩ := Finset.mem_map.mp h1
    exact (put_in (xRect 1 (by decide)) _ _ x).trans (put_in (xRect 1 (by decide)) _ _ x).symm
  · refine (put_out (xRect 1 (by decide)) _ _ h1).trans (Eq.trans ?_ (put_out (xRect 1 (by decide)) _ _ h1).symm)
    have h0 : i ∈ (xRect 0 (by decide)).set := by
      rw [x_mem] at h1 ⊢
      have : (i 0).val < 1024 := (i 0).isLt
      omega
    rw [← Rect.map_emb_univ] at h0
    obtain ⟨x, -, rfl⟩ := Finset.mem_map.mp h0
    exact (put_in (xRect 0 (by decide)) _ _ x).trans (put_in (xRect 0 (by decide)) _ _ x).symm

/-! ## The runs -/

/-- The five staged inputs of device `c`. -/
def inPts (c : Dev nD) (I : Ins F) : sProp 𝕄 :=
  iprop((xM.view.loc (c : Thread nD τ) ↦[Finset.univ]{fullShare} I.x) ∗ (wqM.view.loc (c : Thread nD τ) ↦[Finset.univ]{fullShare} I.wq)
    ∗ (kM.view.loc (c : Thread nD τ) ↦[Finset.univ]{fullShare} I.k) ∗ (vM.view.loc (c : Thread nD τ) ↦[Finset.univ]{fullShare} I.v)
    ∗ (woM.view.loc (c : Thread nD τ) ↦[Finset.univ]{fullShare} I.wo))

/-- A program that only returns. -/
theorem pure_run {α : Type} (c : Dev nD) (a : α) (K : α → sProp 𝕄) :
    K a ⊢ wp frame (wpE (defs₀ (F := F)) 𝒱₀ (c : Thread nD τ) none) Set.univ (pure a) K := by
  show K a ⊢ wp frame (wpE (defs₀ (F := F)) 𝒱₀ (c : Thread nD τ) none) Set.univ (Prog.ret a) K
  rw [wp_ret]
  iintro H; imodintro; iexact H

/-- The first `n` heads of a batch: the accumulator after them. -/
theorem heads_run (c : Dev nD) (I : Ins F) (b : ℕ) (hb : b < 2) (q : FVec F S512x512 .f32) (n : ℕ) (hn : n ≤ 8) (K : FVec F S512x768 .f32 → sProp 𝕄) :
    iprop(inPts c I ∗ (inPts c I -∗ K (sumHeads I b hb q n hn)))
      ⊢ wp frame (wpE (defs₀ (F := F)) 𝒱₀ (c : Thread nD τ) none) Set.univ (heads (F := F) b hb q n hn) K := by
  induction n generalizing K with
  | zero =>
    unfold heads sumHeads
    iintro ⟨Hi, Hk⟩
    iapply (pure_run c)
    iapply Hk; iexact Hi
  | succ n ih =>
    rw [heads, sumHeads, wp_bind]
    iintro ⟨Hi, Hk⟩
    iapply (ih (Nat.le_of_succ_le hn))
    isplitl [Hi]; · iexact Hi
    unfold inPts
    iintro ⟨Hx, Hq, HK, HV, Ho⟩
    simp only [Prog.lift, Prog.bind_op, Prog.bind_ret]
    iapply (wp_load_rect 𝒱₀ (c : Thread nD τ) none Set.univ (m := kM) (r := kRect b n hb hn) (S := Finset.univ) (Finset.subset_univ _)) $$ HK
    iintro HK
    iapply (wp_load_rect 𝒱₀ (c : Thread nD τ) none Set.univ (m := vM) (r := vRect b n hb hn) (S := Finset.univ) (Finset.subset_univ _)) $$ HV
    iintro HV
    iapply (wp_load_rect 𝒱₀ (c : Thread nD τ) none Set.univ (m := woM) (r := woRect n hn) (S := Finset.univ) (Finset.subset_univ _)) $$ Ho
    iintro Ho
    iapply (pure_run c)
    iapply Hk
    isplitl [Hx]; · iexact Hx
    isplitl [Hq]; · iexact Hq
    isplitl [HK]; · iexact HK
    isplitl [HV]; · iexact HV
    iexact Ho

/-- One batch: its rows of the result are replaced. -/
theorem batch_run (c : Dev nD) (I : Ins F) (b : ℕ) (hb : b < 2) (g : OutB F) (K : PUnit → sProp 𝕄) :
    iprop(inPts c I ∗ outPts c g ∗ ((inPts c I ∗ outPts c (putBatch I b hb g)) -∗ K ⟨⟩))
      ⊢ wp frame (wpE (defs₀ (F := F)) 𝒱₀ (c : Thread nD τ) none) Set.univ (batch (F := F) b hb) K := by
  unfold batch
  simp only [Prog.lift, Prog.bind_op, Prog.bind_ret]
  iintro ⟨Hi, Hg, Hk⟩
  unfold inPts
  icases Hi with ⟨Hx, Hq, Hi⟩
  iapply (wp_load_rect 𝒱₀ (c : Thread nD τ) none Set.univ (m := xM) (r := xRect b hb) (S := Finset.univ) (Finset.subset_univ _)) $$ Hx
  iintro Hx
  iapply (wp_load_rect 𝒱₀ (c : Thread nD τ) none Set.univ (m := wqM) (r := wqRect) (S := Finset.univ) (Finset.subset_univ _)) $$ Hq
  iintro Hq
  rw [wp_bind]
  iapply (heads_run c I b hb)
  unfold inPts
  isplitl [Hx Hq Hi]
  · isplitl [Hx]; · iexact Hx
    isplitl [Hq]; · iexact Hq
    iexact Hi
  iintro Hi
  iapply (wp_load_rect 𝒱₀ (c : Thread nD τ) none Set.univ (m := outM) (r := xRect b hb) (S := Finset.univ) (Finset.subset_univ _)) $$ Hg
  iintro Hg
  iapply (wp_store 𝒱₀ (c : Thread nD τ) none Set.univ (m := outM) (r := xRect b hb) (S := Finset.univ) (Finset.subset_univ _)) $$ Hg
  iintro Hg
  rw [wp_ret]
  imodintro
  iapply Hk
  isplitl [Hi]; · iexact Hi
  iexact Hg

end Cert.Butterfly

end
-- ==== Proof.Body.lean ====
/- The body of the kernel, whole: from a device's means at launch and its inputs to the result after ten rounds. -/
module

public import proofs.«01_k».proof.Proof.Compute

@[expose] public section

noncomputable section

namespace Cert.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Splitting the ten rounds -/

/-- Paired resources are the two families. -/
theorem both {ι : Type} [Fintype ι] (Φ Ψ : ι → sProp 𝕄) :
    (bigSep Finset.univ fun i => iprop(Φ i ∗ Ψ i)) = iprop(bigSep Finset.univ Φ ∗ bigSep Finset.univ Ψ) := bigSep_sep _ _ _

/-- The ten rounds are the reduce-scatter's five and the all-gather's five. -/
theorem ten (Φ : Fin 10 → sProp 𝕄) :
    bigSep Finset.univ Φ = iprop((bigSep Finset.univ fun k => Φ (lo k)) ∗ (bigSep Finset.univ fun k => Φ (hi k))) := by
  rw [bigSep_univ_equiv (finSumFinEquiv (m := 5) (n := 5)) Φ, bigSep_univ_sum]
  rfl

/-- The all-gather's five in order, or by the bit they go over. -/
theorem turned (Φ : Fin 10 → sProp 𝕄) : (bigSep Finset.univ fun k => Φ (hi k)) = bigSep Finset.univ fun k => Φ (hiOf k) :=
  bigSep_univ_equiv Fin.revPerm fun k => Φ (hi k)

/-- The reduce-scatter rounds land in `rsM`; -/
theorem land_lo : ∀ k, landM (lo k) = rsM := by intro k; fin_cases k <;> rfl
/-- the all-gather rounds land in `agM`. -/
theorem land_hi : ∀ k, landM (hi k) = agM := by intro k; fin_cases k <;> rfl

/-- The landing sections of the reduce-scatter are the buffer `rsM`, those of the all-gather the buffer `agM`. -/
theorem lands_lo (c : Dev nD) : (bigSep Finset.univ fun k => secAny (landM (lo k)) (lo k) c : sProp 𝕄) = bigSep Finset.univ fun k => secAny rsM (lo k) c :=
  bigSep_congr fun k _ => by rw [land_lo]
/-- The same for the all-gather. -/
theorem lands_hi (c : Dev nD) : (bigSep Finset.univ fun k => secAny (landM (hi k)) (hi k) c : sProp 𝕄) = bigSep Finset.univ fun k => secAny agM (hi k) c :=
  bigSep_congr fun k _ => by rw [land_hi]

/-- Offers by bit are offers by round, made by the partner. -/
theorem offers_lo (c : Dev nD) : (bigSep Finset.univ fun k => (offer (lo k) (flip k c) : sProp 𝕄)) = bigSep Finset.univ fun k => offer (lo k) (peer (lo k) c) :=
  bigSep_congr fun k _ => by unfold peer; rw [kb_lo]
/-- The same for the all-gather. -/
theorem offers_hi (c : Dev nD) : (bigSep Finset.univ fun k => (offer (hiOf k) (flip k c) : sProp 𝕄)) = bigSep Finset.univ fun k => offer (hi k) (peer (hi k) c) := by
  rw [turned fun r => offer r (peer r c)]
  exact bigSep_congr fun k _ => by unfold peer; rw [kb_hiOf]

/-- The staging buffer is all of its array; -/
theorem set_stage : stageM.view.set = Finset.univ := View.set_whole _
/-- so is the reduce-scatter's landing buffer, -/
theorem set_rs : rsM.view.set = Finset.univ := View.set_whole _
/-- and the all-gather's. -/
theorem set_ag : agM.view.set = Finset.univ := View.set_whole _

/-! ## The body -/

variable (P : Dev nD → OutB F)

/-- What a device needs to talk, from launch. -/
def means (c : Dev nD) : sProp 𝕄 :=
  iprop(atPos ER (barCell c) 0 ∅ 0 ∗ cred (tallyAt (barCell c) () 5) ∗ (bigSep Finset.univ fun k => dutyTok ER (barCell (flip k c)) 0 k)
    ∗ (bigSep Finset.univ fun r => seed r c) ∗ (bigSep Finset.univ fun r => reached ER (recvCell r c) 0))
/-- What is left of it after the talk: every cell past its round. -/
def spent (c : Dev nD) : sProp 𝕄 :=
  iprop(atPos ER (barCell c) 1 ∅ 0 ∗ (bigSep Finset.univ fun r => atPos ER (sendCell r c) 1 ∅ 0) ∗ (bigSep Finset.univ fun r => atPos ER (recvCell r c) 1 ∅ 0))
/-- The three exchange buffers. -/
def bufs (c : Dev nD) : sProp 𝕄 := iprop(bufAny stageM c ∗ bufAny rsM c ∗ bufAny agM c)

/-- From its barrier tokens and its two landing buffers a device makes what it hands its five partners. -/
theorem hands_intro (c : Dev nD) :
    iprop((bigSep Finset.univ fun k => dutyTok ER (barCell (flip k c)) 0 k) ∗ (bigSep Finset.univ fun r => (reached ER (recvCell r c) 0 : sProp 𝕄)) ∗ bufAny rsM c ∗ bufAny agM c)
      ⊢ bigSep Finset.univ (hand (F := F) c) := by
  have e : (bigSep Finset.univ (hand (F := F) c)) = iprop((bigSep Finset.univ fun k => dutyTok ER (barCell (flip k c)) 0 k)
      ∗ (bigSep Finset.univ fun k => offer (lo k) c) ∗ (bigSep Finset.univ fun k => offer (hiOf k) c)) := by
    rw [← both, ← both]; rfl
  have el : (bigSep Finset.univ fun k => (offer (lo k) c : sProp 𝕄)) = iprop((bigSep Finset.univ fun k => secAny rsM (lo k) c)
      ∗ (bigSep Finset.univ fun k => reached ER (recvCell (lo k) c) 0)) := by
    rw [← lands_lo, ← both]; rfl
  have eh : (bigSep Finset.univ fun k => (offer (hiOf k) c : sProp 𝕄)) = iprop((bigSep Finset.univ fun k => secAny agM (hi k) c)
      ∗ (bigSep Finset.univ fun k => reached ER (recvCell (hi k) c) 0)) := by
    rw [← turned fun r => offer r c, ← lands_hi, ← both]; rfl
  rw [e, el, eh, ten fun r => (reached ER (recvCell r c) 0 : sProp 𝕄)]
  iintro ⟨Ht, ⟨Hl, Hh⟩, Hr, Ha⟩
  isplitl [Ht]; · iexact Ht
  isplitl [Hl Hr]
  · isplitl [Hr]
    · iapply (cut_buf rsM set_rs lo (Or.inl rfl) c) $$ Hr
    · iexact Hl
  · isplitl [Ha]
    · iapply (cut_buf agM set_ag hi (Or.inr rfl) c) $$ Ha
    · iexact Hh

/-- Five rounds are ready from their means, what the partners offered, and the staging buffer cut into sections. -/
theorem readies_intro (e : Fin 5 → Fin 10) (he : e = lo ∨ e = hi) (c : Dev nD) :
    iprop((bigSep Finset.univ fun k => seed (e k) c) ∗ (bigSep Finset.univ fun k => offer (e k) (peer (e k) c)) ∗ bufAny stageM c)
      ⊢ (bigSep Finset.univ fun k => iprop(ready (e k) c ∗ secAny stageM (e k) c) : sProp 𝕄) := by
  have h : (bigSep Finset.univ fun k => (ready (e k) c : sProp 𝕄)) = iprop((bigSep Finset.univ fun k => seed (e k) c)
      ∗ (bigSep Finset.univ fun k => offer (e k) (peer (e k) c))) := by
    rw [← both]; rfl
  rw [both, h]
  iintro ⟨Hs, Ho, Hb⟩
  isplitl [Hs Ho]
  · isplitl [Hs] <;> iassumption
  · iapply (cut_buf stageM set_stage e he c) $$ Hb

/-- Five finished rounds give back their positions, their landing sections and the staging buffer. -/
theorem rested_elim (e : Fin 5 → Fin 10) (he : e = lo ∨ e = hi) (c : Dev nD) :
    (bigSep Finset.univ fun k => iprop(rested (e k) c ∗ secAny stageM (e k) c) : sProp 𝕄)
      ⊢ iprop((bigSep Finset.univ fun k => atPos ER (sendCell (e k) c) 1 ∅ 0) ∗ (bigSep Finset.univ fun k => atPos ER (recvCell (e k) c) 1 ∅ 0)
        ∗ (bigSep Finset.univ fun k => secAny (landM (e k)) (e k) c) ∗ bufAny stageM c) := by
  have h : (bigSep Finset.univ fun k => (rested (e k) c : sProp 𝕄)) = iprop((bigSep Finset.univ fun k => atPos ER (sendCell (e k) c) 1 ∅ 0)
      ∗ (bigSep Finset.univ fun k => atPos ER (recvCell (e k) c) 1 ∅ 0) ∗ (bigSep Finset.univ fun k => secAny (landM (e k)) (e k) c)) := by
    rw [← both, ← both]; rfl
  rw [both, h]
  iintro ⟨⟨Hs, Hr, Hl⟩, Hb⟩
  isplitl [Hs]; · iexact Hs
  isplitl [Hr]; · iexact Hr
  isplitl [Hl]; · iexact Hl
  iapply (join_buf stageM set_stage e he c) $$ Hb

/-- The ten rounds, and the waits between them. -/
theorem talk_run (κ : GSem nD τ sig → ℕ) (c : Dev nD) (K : PUnit → sProp 𝕄) :
    iprop(records P κ ∗ outPts c (P c) ∗ (bigSep Finset.univ fun r => seed r c) ∗ (bigSep Finset.univ fun k => barPay c k) ∗ bufAny stageM c ∗ owesAny c (oweR 0 c)
        ∗ ((outPts c (content P 10 c) ∗ (bigSep Finset.univ fun r => atPos ER (sendCell r c) 1 ∅ 0) ∗ (bigSep Finset.univ fun r => atPos ER (recvCell r c) 1 ∅ 0)
            ∗ bufs c ∗ owesAny c 0) -∗ K ⟨⟩))
      ⊢ wp frame (wpE (defs₀ (F := F)) 𝒱₀ (c : Thread nD τ) none) Set.univ (talk (F := F) c) K := by
  have hp : (bigSep Finset.univ fun k => (barPay c k : sProp 𝕄)) = iprop((bigSep Finset.univ fun k => offer (lo k) (peer (lo k) c))
      ∗ (bigSep Finset.univ fun k => offer (hi k) (peer (hi k) c))) := by
    rw [← offers_lo, ← offers_hi, ← both]; rfl
  have ht : talk (F := F) c = (do (do rounds (F := F) lo c 5 (le_refl 5); drains lo 5 (le_refl 5)); (do rounds (F := F) hi c 5 (le_refl 5); drains hi 5 (le_refl 5))) := by
    unfold talk; simp only [bind_assoc]
  rw [ht, wp_bind, hp, ten fun r => seed r c, ten fun r => (atPos ER (sendCell r c) 1 ∅ 0 : sProp 𝕄), ten fun r => (atPos ER (recvCell r c) 1 ∅ 0 : sProp 𝕄)]
  iintro ⟨#HR, Hout, ⟨Hsl, Hsh⟩, ⟨Hol, Hoh⟩, Hb, HO, Hk⟩
  iapply (phase_run P κ lo 0 (fun k => by simp [lo]) c)
  isplitr; · iexact HR
  isplitl [Hout]; · iexact Hout
  isplitl [Hsl Hol Hb]
  · iapply (readies_intro lo (Or.inl rfl) c)
    isplitl [Hsl]; · iexact Hsl
    isplitl [Hol] <;> iassumption
  isplitl [HO]; · iexact HO
  iintro ⟨Hout, Hr, HO⟩
  ihave Hr' := (rested_elim lo (Or.inl rfl) c) $$ Hr
  icases Hr' with ⟨Has, Har, Hl, Hb⟩
  iapply (phase_run P κ hi 5 (fun k => rfl) c)
  isplitr; · iexact HR
  isplitl [Hout]; · iexact Hout
  isplitl [Hsh Hoh Hb]
  · iapply (readies_intro hi (Or.inr rfl) c)
    isplitl [Hsh]; · iexact Hsh
    isplitl [Hoh] <;> iassumption
  isplitl [HO]; · iexact HO
  rw [show 5 + 5 = 10 from rfl, oweR_end]
  iintro ⟨Hout, Hr, HO⟩
  ihave Hr' := (rested_elim hi (Or.inr rfl) c) $$ Hr
  icases Hr' with ⟨Has', Har', Hl', Hb⟩
  iapply Hk
  isplitl [Hout]; · iexact Hout
  isplitl [Has Has']
  · isplitl [Has] <;> iassumption
  isplitl [Har Har']
  · isplitl [Har] <;> iassumption
  isplitr [HO]
  · unfold bufs
    isplitl [Hb]; · iexact Hb
    isplitl [Hl]
    · iapply (join_buf rsM set_rs lo (Or.inl rfl) c)
      iapply (Entails.of_eq (lands_lo c)) $$ Hl
    · iapply (join_buf agM set_ag hi (Or.inr rfl) c)
      iapply (Entails.of_eq (lands_hi c)) $$ Hl'
  · iexact HO

/-- The body: the result ends at what ten rounds make of the devices' partial results. -/
theorem pieces_run (κ : GSem nD τ sig → ℕ) (c : Dev nD) (I : Ins F) (hP : P c = partialOf I) (g : OutB F) (K : PUnit → sProp 𝕄) :
    iprop(records P κ ∗ means c ∗ bufs c ∗ inPts c I ∗ outPts c g ∗ owesAny c (owe0 c)
        ∗ ((spent c ∗ bufs c ∗ inPts c I ∗ outPts c (content P 10 c) ∗ owesAny c 0) -∗ K ⟨⟩))
      ⊢ wp frame (wpE (defs₀ (F := F)) 𝒱₀ (c : Thread nD τ) none) Set.univ (pieces (F := F)) K := by
  unfold pieces means
  rw [show bufs (F := F) c = iprop(bufAny stageM c ∗ bufAny rsM c ∗ bufAny agM c) from rfl]
  simp only [Prog.lift, Prog.bind_op, Prog.bind_ret]
  iintro ⟨#HR, ⟨Hat, Hc, Ht, Hs, Hr⟩, ⟨Hb, Hbr, Hba⟩, Hi, Hg, HO, Hk⟩
  rw [wp_deviceId, wp_bind]
  iapply (greet_run P κ c)
  isplitr; · iexact HR
  isplitl [HO]; · iexact HO
  isplitl [Ht Hr Hbr Hba]
  · iapply (hands_intro c)
    isplitl [Ht]; · iexact Ht
    isplitl [Hr]; · iexact Hr
    isplitl [Hbr] <;> iassumption
  isplitl [Hat]; · iexact Hat
  isplitl [Hc]; · iexact Hc
  iintro ⟨HO, Hat, Hp⟩
  rw [wp_bind]
  iapply (batch_run c I 0 _ g)
  isplitl [Hi]; · iexact Hi
  isplitl [Hg]; · iexact Hg
  iintro ⟨Hi, Hg⟩
  rw [wp_bind]
  iapply (batch_run c I 1)
  isplitl [Hi]; · iexact Hi
  isplitl [Hg]; · iexact Hg
  rw [partial_any, ← hP]
  iintro ⟨Hi, Hg⟩
  iapply (talk_run P κ c)
  isplitr; · iexact HR
  isplitl [Hg]; · iexact Hg
  isplitl [Hs]; · iexact Hs
  isplitl [Hp]; · iexact Hp
  isplitl [Hb]; · iexact Hb
  isplitl [HO]; · iexact HO
  iintro ⟨Hg, Hs, Hr, Hb, HO⟩
  iapply Hk
  isplitl [Hat Hs Hr]
  · unfold spent
    isplitl [Hat]; · iexact Hat
    isplitl [Hs] <;> iassumption
  isplitl [Hb]; · unfold bufs; iexact Hb
  isplitl [Hi]; · iexact Hi
  isplitl [Hg] <;> iassumption

/-- Every cell past its one round is handed back empty. -/
theorem spent_close (κ : GSem nD τ sig → ℕ) (c : Dev nD) :
    iprop(records P κ ∗ spent c) ⊢ |={Set.univ}=> iprop(semVal (barCell c) 0 ∗ (bigSep Finset.univ fun r => semVal (sendCell r c) 0)
      ∗ (bigSep Finset.univ fun r => (semVal (recvCell r c) 0 : sProp 𝕄))) := by
  have close (g : GSem nD τ sig) (hg : g ∈ (barCells ∪ ownCells : Finset (GSem nD τ sig))) :
      iprop(records P κ ∗ atPos ER g 1 ∅ 0) ⊢ |={Set.univ}=> (semVal g 0 : sProp 𝕄) :=
    (sep_mono_l (records_inv P κ hg)).trans
      (Rounds.cell_close ER (sched P) (Set.mem_univ (κ g)) id (fun r hr => duties_later P g r (by omega)))
  have all (e : Fin 10 → GSem nD τ sig) (he : ∀ r, e r ∈ (barCells ∪ ownCells : Finset (GSem nD τ sig))) :
      iprop(records P κ ∗ bigSep Finset.univ fun r => atPos ER (e r) 1 ∅ 0) ⊢ |={Set.univ}=> (bigSep Finset.univ fun r => (semVal (e r) 0 : sProp 𝕄)) :=
    (bigSep_with_persistent (fun r _ => close (e r) (he r))).trans (bigSep_fupd _ _)
  unfold spent
  iintro ⟨#HR, Hb, Hs, Hr⟩
  imod (close (barCell c) (bar_mem c)) $$ [Hb] with Hb
  · isplitr; · iexact HR
    iexact Hb
  imod (all (fun r => sendCell r c) (fun r => send_mem r c)) $$ [Hs] with Hs
  · isplitr; · iexact HR
    iexact Hs
  imod (all (fun r => recvCell r c) (fun r => recv_mem r c)) $$ [Hr] with Hr
  · isplitr; · iexact HR
    iexact Hr
  imodintro
  isplitl [Hb]; · iexact Hb
  isplitl [Hs] <;> iassumption

end Cert.Butterfly

end
-- ==== Proof.Region.lean ====
/- The kernel's one region: what each buffer and each device holds before and after its single grid point, the body's
   obligation there, and the segment of the program that is the region. -/
module

public import proofs.«01_k».proof.Proof.Cut
public import proofs.«01_k».proof.Proof.Body
public import proofs.«01_k».proof.Proof.Gen.KernelIdeal.Points
public import proofs.«01_k».proof.Proof.Gen.KernelIdeal.Regions
public import Idealize.ShloMosaic.Lib.Pipeline.RegionTalk

@[expose] public section

noncomputable section

namespace Cert.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-! ## The values -/

/-- The five arrays device `c`'s kernel is called on. -/
def insOf (c : Dev nD) : Ins F := ⟨V1 m c main_v15, V1 m c main_v9, V1 m c main_v17, V1 m c main_v19, V1 m c main_v14⟩
/-- Device `c`'s own share of the sum. -/
def part (c : Dev nD) : OutB F := partialOf (insOf m c)
/-- What device `c` ends with: its share after the ten rounds. -/
def result (c : Dev nD) : OutB F := content (part m) 10 c
/-- Its definition, for use where it is closed; -/
theorem part_eq (c : Dev nD) : part m c = partialOf (insOf m c) := rfl
/-- the result's likewise. -/
theorem result_eq (c : Dev nD) : result m c = content (part m) 10 c := rfl
attribute [irreducible] part result
/-- The only array the region changes is the result's. -/
def outs : Outs (F := F) := fun _ r c => if h : r = main_v20 then h ▸ (result m c : Buf (Elt F) ((c : Thread nD τ).loc main_v20)) else V1 m c r
/-- What the region leaves in the result. -/
theorem outs_result (c : Dev nD) : outs m 2 main_v20 c = result m c := dif_pos rfl

/-! ## The point -/

/-- Before the point. -/
def before (c : Dev nD) : sProp 𝕄 := iprop((∃ κ, records (part m) κ) ∗ means c ∗ bufs c ∗ ∃ r, prngReg c r)
/-- After it: every cell closed, its counter at zero. -/
def after (c : Dev nD) : sProp 𝕄 :=
  iprop(semVal (barCell c) 0 ∗ ((bigSep Finset.univ fun r => semVal (sendCell r c) 0) ∗ (bigSep Finset.univ fun r => semVal (recvCell r c) 0))
    ∗ bufs c ∗ ∃ r, prngReg c r)

def dat0 (c : Dev nD) : Dat τ (Elt F) Unit ℕ UU ℕ cfg0 c where
  A w := match w with
    | ⟨0, _⟩ => V1 m c main_v15 | ⟨1, _⟩ => V1 m c main_v9 | ⟨2, _⟩ => V1 m c main_v17 | ⟨3, _⟩ => V1 m c main_v19
    | ⟨4, _⟩ => V1 m c main_v14 | ⟨5, _⟩ => V1 m c main_v20
  after w _ := match w with
    | ⟨0, _⟩ => (insOf m c).x | ⟨1, _⟩ => (insOf m c).wq | ⟨2, _⟩ => (insOf m c).k | ⟨3, _⟩ => (insOf m c).v
    | ⟨4, _⟩ => (insOf m c).wo | ⟨5, _⟩ => result m c
  Φ t := if t.val = 0 then before m c else after c
  q _ := fullShare
  owed t := if t.val = 0 then owe0 c else 0
def pdats (_ : Fin 1) (c : Dev nD) : Dat τ (Elt F) Unit ℕ UU ℕ cfg0 c := dat0 m c

/-- Before the point a device owes all of its signals and copies; -/
theorem owed_first (c : Dev nD) (t : Fin (cfg0.N + 1)) (h : t.val = 0) : (dat0 m c).owed t = owe0 c := if_pos h
/-- after it nothing. -/
theorem owed_last (c : Dev nD) (t : Fin (cfg0.N + 1)) (h : t.val ≠ 0) : (dat0 m c).owed t = 0 := if_neg h
/-- The state before the point; -/
theorem phi_first (c : Dev nD) (t : Fin (cfg0.N + 1)) (h : t.val = 0) : (dat0 m c).Φ t = before m c := if_pos h
/-- the state after it. -/
theorem phi_last (c : Dev nD) (t : Fin (cfg0.N + 1)) (h : t.val ≠ 0) : (dat0 m c).Φ t = after c := if_neg h

/-- What a device owes, whatever its recorded waits, is what the pipeline states; -/
theorem owesAt_of (c : Dev nD) (t : Fin (cfg0.N + 1)) (O : CellTallies nD τ sig Unit) (h : (dat0 m c).owed t = O) :
    owesAny c O ⊢ ((dat0 m c).owesAt () t : sProp 𝕄) := by
  unfold owesAny Dat.owesAt Pipeline.owesWithin Dat.bound
  rw [h]
  iintro ⟨%W, HO⟩
  iexists W
  isplitr
  · ipureintro; exact fun _ _ => Or.inl trivial
  · iexact HO
/-- and back. -/
theorem of_owesAt (c : Dev nD) (t : Fin (cfg0.N + 1)) (O : CellTallies nD τ sig Unit) (h : (dat0 m c).owed t = O) :
    ((dat0 m c).owesAt () t : sProp 𝕄) ⊢ owesAny c O := by
  unfold owesAny Dat.owesAt Pipeline.owesWithin
  rw [h]
  iintro ⟨%W, -, HO⟩
  iexists W; iexact HO

/-- The block of a window on a whole array is the array. -/
theorem whole_emb {s : Shape} (off : Fin s.rank → ℕ) (h0 : ∀ a, off a = 0) (inb) (x : (Rect.unit (s := s) off s.size inb).shape.Idx) :
    (Rect.unit (s := s) off s.size inb).emb x = x := by
  funext a
  refine Fin.ext ?_
  rw [Rect.emb_apply]
  show off a + 1 * (x a).val = (x a).val
  rw [h0]; omega
/-- What is fetched into a window on a whole array is what the array holds. -/
theorem fetched_whole {s : Shape} {e : EltTy} {cs : CoreSpace} (arr : Memref sig .tc .hbm s e) (o y : Bool)
    (stage : Memref sig .tc (.core cs) ⟨s.rank, s.size⟩ e) (sem : DmaSem sig) (ha : arr.IsWhole) (hs : stage.IsWhole)
    (t : Fin Pipeline.Grid.none.N) (d : s.Idx → Elt F e) (f : arr.view.ty.Contents (Elt F)) :
    (Pipeline.Window.whole arr o y stage sem ha hs).fill (Pipeline.Grid.none.coords t) d
      (((Pipeline.Window.whole arr o y stage sem ha hs).blk t).view.read (Elt F) f) = arr.view.read (Elt F) f := by
  funext j
  unfold Pipeline.Window.fill
  rw [dif_pos ((Pipeline.Window.moved_iff _ _ _).mpr fun a => (j a).isLt)]
  show arr.view.read (Elt F) f (Rect.emb _ _) = _
  exact congrArg _ (whole_emb _ (fun a => Nat.zero_mul _) _ j)

/-- So the input windows are found holding what they are left holding. -/
theorem before_eq (c : Dev nD) (w : Fin 6) (hw : w ≠ 5) (t : Fin cfg0.N) (d) : (dat0 m c).before w t d = (dat0 m c).after w t := by
  obtain rfl := fin_N0 t
  fin_cases w
  · exact (Dat.before_fetched _ _ _ (fetch0_0 _) d).trans (fetched_whole (F := F) (Memref.whole main_v15) false false (stage0_0 0) (sem0_0 0) (Memref.isWhole_whole _) (hstage0_0 0) t0_0 d _)
  · exact (Dat.before_fetched _ _ _ (fetch0_1 _) d).trans (fetched_whole (F := F) (Memref.whole main_v9) false false (stage0_1 0) (sem0_1 0) (Memref.isWhole_whole _) (hstage0_1 0) t0_0 d _)
  · exact (Dat.before_fetched _ _ _ (fetch0_2 _) d).trans (fetched_whole (F := F) (Memref.whole main_v17) false false (stage0_2 0) (sem0_2 0) (Memref.isWhole_whole _) (hstage0_2 0) t0_0 d _)
  · exact (Dat.before_fetched _ _ _ (fetch0_3 _) d).trans (fetched_whole (F := F) (Memref.whole main_v19) false false (stage0_3 0) (sem0_3 0) (Memref.isWhole_whole _) (hstage0_3 0) t0_0 d _)
  · exact (Dat.before_fetched _ _ _ (fetch0_4 _) d).trans (fetched_whole (F := F) (Memref.whole main_v14) false false (stage0_4 0) (sem0_4 0) (Memref.isWhole_whole _) (hstage0_4 0) t0_0 d _)
  · exact absurd rfl hw

/-- The call the pipeline makes at its point is `pieces`. -/
theorem call_eq (t : Fin cfg0.N) : defs₀ (F := F) .tc cfg0.body (cfg0.bodyArgs t (cfg0.slots t)) = pieces := by
  obtain rfl := fin_N0 t
  exact (show _ = cc0__body (F := F) xM _ wqM _ kM _ vM _ woM _ outM _ stageM _ rsM _ agM _ cc0_scratch3 cc0_scratch4 from rfl).trans body_eq

/-- The input window `w`, as the point finds it. -/
theorem found (c : Dev nD) (w : Fin 6) (hw : w ≠ 5) (t : Fin cfg0.N) :
    iprop(∃ d, owns (c : Thread nD τ) ((cfg0.win w).stage (cfg0.slots t w)) fullShare ((dat0 m c).before w t d))
      ⊢ (owns (c : Thread nD τ) ((cfg0.win w).stage (cfg0.slots t w)) fullShare ((dat0 m c).after w t) : sProp 𝕄) := by
  refine exists_elim fun d => ?_
  rw [before_eq m c w hw]

/-- A whole buffer owned, as the points-to of its contents. -/
theorem pts_of (c : Dev nD) (b : Ref sig .tc) (f : b.ty.Contents (Elt F)) :
    owns (c : Thread nD τ) (Memref.whole b) fullShare f ⊢ (((c : Thread nD τ).loc b) ↦{fullShare} f : sProp 𝕄) :=
  Entails.of_eq (owns_whole _ _ _ _)
/-- A buffer held is the whole memref held. -/
theorem of_pts (c : Dev nD) (b : Ref sig .tc) (f : b.ty.Contents (Elt F)) :
    (((c : Thread nD τ).loc b) ↦{fullShare} f : sProp 𝕄) ⊢ owns (c : Thread nD τ) (Memref.whole b) fullShare f :=
  Entails.of_eq (owns_whole _ _ _ _).symm

/-- The windows' buffers as the point finds them: the five inputs, and the result at whatever it holds. -/
theorem windows_found (c : Dev nD) (t : Fin cfg0.N) :
    (bigSep Finset.univ fun w : Fin 6 => iprop(∃ d, owns (c : Thread nD τ) ((cfg0.win w).stage (cfg0.slots t w)) fullShare ((dat0 m c).before w t d)))
      ⊢ (iprop(inPts c (insOf m c) ∗ ∃ g, outPts c g) : sProp 𝕄) := by
  rw [bigSep_W0]
  unfold inPts
  have e0 := (found m c 0 (by decide) t).trans (pts_of c cc0_stg0_0 (insOf m c).x)
  have e1 := (found m c 1 (by decide) t).trans (pts_of c cc0_stg1_0 (insOf m c).wq)
  have e2 := (found m c 2 (by decide) t).trans (pts_of c cc0_stg2_0 (insOf m c).k)
  have e3 := (found m c 3 (by decide) t).trans (pts_of c cc0_stg3_0 (insOf m c).v)
  have e4 := (found m c 4 (by decide) t).trans (pts_of c cc0_stg4_0 (insOf m c).wo)
  have e5 : iprop(∃ d, owns (c : Thread nD τ) ((cfg0.win (5 : Fin 6)).stage (cfg0.slots t (5 : Fin 6))) fullShare ((dat0 m c).before (5 : Fin 6) t d))
      ⊢ (iprop(∃ g, outPts c g) : sProp 𝕄) :=
    exists_elim fun d => by iintro H; iexists _; iapply (pts_of c cc0_stg5_0 _) $$ H
  iintro ⟨H0, H1, H2, H3, H4, H5⟩
  isplitr [H5]
  · isplitl [H0]; · iapply e0 $$ H0
    isplitl [H1]; · iapply e1 $$ H1
    isplitl [H2]; · iapply e2 $$ H2
    isplitl [H3]; · iapply e3 $$ H3
    iapply e4 $$ H4
  · iapply e5 $$ H5

/-- And as it leaves them. -/
theorem windows_left (c : Dev nD) (t : Fin cfg0.N) :
    (iprop(inPts c (insOf m c) ∗ outPts c (result m c)) : sProp 𝕄)
      ⊢ bigSep Finset.univ fun w : Fin 6 => owns (c : Thread nD τ) ((cfg0.win w).stage (cfg0.slots t w)) fullShare ((dat0 m c).after w t) := by
  rw [bigSep_W0]
  unfold inPts
  have e5 : outPts c (result m c) ⊢ (owns (c : Thread nD τ) ((cfg0.win (5 : Fin 6)).stage (cfg0.slots t (5 : Fin 6))) fullShare ((dat0 m c).after (5 : Fin 6) t) : sProp 𝕄) :=
    of_pts c cc0_stg5_0 (result m c)
  iintro ⟨⟨H0, H1, H2, H3, H4⟩, H5⟩
  isplitl [H0]; · iapply (of_pts c cc0_stg0_0 (insOf m c).x) $$ H0
  isplitl [H1]; · iapply (of_pts c cc0_stg1_0 (insOf m c).wq) $$ H1
  isplitl [H2]; · iapply (of_pts c cc0_stg2_0 (insOf m c).k) $$ H2
  isplitl [H3]; · iapply (of_pts c cc0_stg3_0 (insOf m c).v) $$ H3
  isplitl [H4]; · iapply (of_pts c cc0_stg4_0 (insOf m c).wo) $$ H4
  iapply e5 $$ H5

/-- The body's obligation at the point. -/
theorem body_ok (c : Dev nD) : BodyObligation (dat0 m c) defs₀ 𝒱₀ () Set.univ := fun t => by
  obtain rfl := fin_N0 t
  rw [call_eq, phi_first m c _ (by rfl), phi_last m c _ (by decide)]
  refine BIBase.Entails.trans ?_ (wp_fupd _ _ _ _ _)
  refine BIBase.Entails.trans (BIClass.sep_mono .rfl (BIClass.sep_mono (of_owesAt m c _ (owe0 c) (owed_first m c _ (by rfl))) (windows_found m c t0_0))) ?_
  unfold before after
  iintro ⟨⟨⟨%κ, #HR⟩, HM, HB, Hp⟩, HO, HI, ⟨%g, HG⟩⟩
  iapply (pieces_run (part m) κ c (insOf m c) (part_eq m c) g _)
  isplitr; · iexact HR
  isplitl [HM]; · iexact HM
  isplitl [HB]; · iexact HB
  isplitl [HI]; · iexact HI
  isplitl [HG]; · iexact HG
  isplitl [HO]; · iexact HO
  iintro ⟨HS, HB, HI, HG, HO⟩
  imod (spent_close (part m) κ c) $$ [HS] with ⟨H1, H2, H3⟩
  · isplitr; · iexact HR
    iexact HS
  imodintro
  isplitl [H1 H2 H3 HB Hp]
  · isplitl [H1]; · iexact H1
    isplitl [H2 H3]; · isplitl [H2] <;> iassumption
    isplitl [HB] <;> iassumption
  isplitl [HO]
  · iapply (owesAt_of m c _ 0 (owed_last m c _ (by decide))) $$ HO
  · iapply (windows_left m c t0_0)
    rw [result_eq]
    isplitl [HI] <;> iassumption

/-! ## Entering and leaving the region -/

/-- What every device may consult from launch on: the invariant of every cell, and that every barrier's round 0 is open. -/
def given (κ : GSem nD τ sig → ℕ) : sProp 𝕄 :=
  iprop((bigSep (barCells ∪ ownCells) fun g => cellInv ER (sched (part m)) (κ g) g) ∗ (bigSep barCells fun g => reached ER g 0))
instance given_persistent (κ : GSem nD τ sig → ℕ) : BI.Persistent (given m κ) := by unfold given; infer_instance
/-- A device's own, from launch: its barrier position, the rights to open its exchange cells, the duties it pays. -/
def stock (c : Dev nD) : sProp 𝕄 :=
  iprop(atPos ER (barCell c) 0 ∅ 0 ∗ (bigSep Finset.univ fun k => dutyTok ER (barCell (flip k c)) 0 k)
    ∗ (bigSep Finset.univ fun r => openTok ER (sendCell r c)) ∗ (bigSep Finset.univ fun r => openTok ER (recvCell r c))
    ∗ (bigSep Finset.univ fun r => dutyTok ER (sendCell r c) 0 0) ∗ (bigSep Finset.univ fun r => dutyTok ER (recvCell r (peer r c)) 0 0))
/-- And the credit it waits with. -/
def credits (c : Dev nD) : sProp 𝕄 :=
  iprop(cred (tallyAt (barCell c) () 5) ∗ (bigSep Finset.univ fun r => cred (tallyAt (recvCell r c) () (amt r))))
def Tk (c : Dev nD) : sProp 𝕄 := iprop((∃ κ, given m κ) ∗ stock c ∗ credits c)
def Xk (c : Dev nD) : sProp 𝕄 := iprop((∃ κ, records (part m) κ) ∗ means c)
def Yk (c : Dev nD) : sProp 𝕄 := semVal (barCell c) 0

/-- The call's own semaphores are the ten send and the ten receive ones. -/
theorem ownSems_eq (c : Dev nD) : (Pipeline.ownSems0 osem c : sProp 𝕄)
    = iprop((bigSep Finset.univ fun r => semVal (sendCell r c) 0) ∗ (bigSep Finset.univ fun r => semVal (recvCell r c) 0)) := by
  unfold Pipeline.ownSems0
  rw [bigSep_univ_sum]; rfl

/-- The means of the ten rounds, kind by kind. -/
theorem seeds_eq (c : Dev nD) : (bigSep Finset.univ fun r => (seed r c : sProp 𝕄))
    = iprop((bigSep Finset.univ fun r => atPos ER (sendCell r c) 0 ∅ 0) ∗ (bigSep Finset.univ fun r => atPos ER (recvCell r c) 0 ∅ 0)
      ∗ (bigSep Finset.univ fun r => reached ER (sendCell r c) 0) ∗ (bigSep Finset.univ fun r => dutyTok ER (sendCell r c) 0 0)
      ∗ (bigSep Finset.univ fun r => dutyTok ER (recvCell r (peer r c)) 0 0) ∗ (bigSep Finset.univ fun r => cred (tallyAt (recvCell r c) () (amt r)))) := by
  rw [← both, ← both, ← both, ← both, ← both]; rfl

/-- Ten of a device's exchange cells opened, their counters in hand. -/
theorem opened (κ : GSem nD τ sig → ℕ) (e : Fin 10 → GSem nD τ sig) (he : ∀ r, e r ∈ (barCells ∪ ownCells : Finset (GSem nD τ sig))) :
    iprop(given m κ ∗ (bigSep Finset.univ fun r => openTok ER (e r)) ∗ (bigSep Finset.univ fun r => semVal (e r) 0))
      ⊢ |={Set.univ}=> iprop((bigSep Finset.univ fun r => atPos ER (e r) 0 ∅ 0) ∗ (bigSep Finset.univ fun r => (reached ER (e r) 0 : sProp 𝕄))) := by
  have one (r : Fin 10) : iprop(given m κ ∗ (openTok ER (e r) ∗ semVal (e r) 0)) ⊢ |={Set.univ}=> iprop(atPos ER (e r) 0 ∅ 0 ∗ (reached ER (e r) 0 : sProp 𝕄)) := by
    have hi : given m κ ⊢ cellInv ER (sched (part m)) (κ (e r)) (e r) := by
      unfold given
      iintro ⟨H, -⟩
      iapply (show (bigSep (barCells ∪ ownCells) fun g => cellInv ER (sched (part m)) (κ g) g) ⊢ cellInv ER (sched (part m)) (κ (e r)) (e r) from
        bigSep_elim (he r)) $$ H
    exact (sep_mono_l hi).trans (Rounds.cell_open ER (sched (part m)) (κ := κ (e r)) (Set.mem_univ _))
  rw [← both, ← both]
  exact (bigSep_with_persistent fun r _ => one r).trans (bigSep_fupd _ _)

/-- At the entry of the call a device opens its exchange cells, and has what it needs to talk. -/
theorem hopen (c : Dev nD) : iprop(Tk m c ∗ Pipeline.ownSems0 osem c ∗ levAts L lv) ⊢ (|={Set.univ}=> Xk m c : sProp 𝕄) := by
  rw [ownSems_eq]
  unfold Tk Xk stock credits means
  rw [seeds_eq]
  iintro ⟨⟨⟨%κ, #HG⟩, ⟨HB, HtB, HoS, HoV, HtS, HtV⟩, HcB, HcV⟩, ⟨HsS, HsV⟩, #HL⟩
  imod (opened m κ (fun r => sendCell r c) (fun r => send_mem r c)) $$ [HoS HsS] with ⟨HaS, HrS⟩
  · isplitr; · iexact HG
    isplitl [HoS] <;> iassumption
  imod (opened m κ (fun r => recvCell r c) (fun r => recv_mem r c)) $$ [HoV HsV] with ⟨HaV, HrV⟩
  · isplitr; · iexact HG
    isplitl [HoV] <;> iassumption
  imodintro
  isplitr
  · iexists κ
    unfold records given
    icases HG with ⟨H1, H2⟩
    isplitr; · iexact H1
    isplitr; · iexact H2
    iapply (Entails.of_eq (levels_eq (F := F)).symm) $$ HL
  isplitl [HB]; · iexact HB
  isplitl [HcB]; · iexact HcB
  isplitl [HtB]; · iexact HtB
  isplitr [HrV]
  · isplitl [HaS]; · iexact HaS
    isplitl [HaV]; · iexact HaV
    isplitl [HrS]; · iexact HrS
    isplitl [HtS]; · iexact HtS
    isplitl [HtV] <;> iassumption
  · iexact HrV

/-- The call's own buffers are the three exchange buffers. -/
theorem rest_eq (c : Dev nD) : (Pipeline.scopedRest (Ix := Unit) (Name := ℕ) (U := UU) (Lvl := ℕ) (Val := Elt F) (Pipeline.pin (pcfgs (F := F)) adm 0).spec c : sProp 𝕄)
    = bufs c := scopedRest0_eq c

/-- The state before the point, from what the call starts with; -/
theorem hin (c : Dev nD) : iprop(Pipeline.scopedRest (Pipeline.pin (pcfgs (F := F)) adm 0).spec c ∗ (∃ r, prngReg c r)
      ∗ StableHlo.held (c.tc : Thread nD τ) ∅ (V1 m c) ∗ Xk m c) ⊢ ((pdats m 0 c).Φ 0 : sProp 𝕄) := by
  rw [rest_eq, show (pdats m 0 c).Φ 0 = before m c from phi_first m c 0 rfl]
  unfold before Xk
  iintro ⟨HB, Hp, -, HR, HM⟩
  isplitl [HR]; · iexact HR
  isplitl [HM]; · iexact HM
  isplitl [HB] <;> iassumption

/-- what the call ends with, from the state after it. -/
theorem hout (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk c) := by
  rw [rest_eq, ownSems_eq, show (pdats m 0 c).Φ (Fin.last _) = after c from phi_last m c _ (by decide)]
  unfold after Yk StableHlo.held
  rw [bigSep_empty]
  iintro ⟨H1, H2, HB, Hp⟩
  isplitl [HB]; · iexact HB
  isplitl [Hp]; · iexact Hp
  isplitr; · iempintro
  isplitl [H2] <;> iassumption

/-- The call's launch facts. -/
theorem kit : Pipeline.PLaunchFacts (nD := nD) (τ := τ) (pcfgs (F := F)) 0 := launch0.toP

/-- All that is owed lies above the staging semaphores. -/
theorem owe0_pos (c : Dev nD) (g : GSem nD τ sig) (i : Unit) (h : 0 < owe0 c g i) : i ∈ L g ∧ 0 < lv g i := by
  unfold owe0 at h
  rw [Pi.add_apply, Finsupp.add_apply] at h
  rcases Nat.add_pos_iff_pos_or_pos.mp h with h | h
  · obtain ⟨r, -, rfl⟩ := oweR_pos h
    exact ⟨by rw [L_tc]; exact Finset.mem_singleton_self _, by rw [lv_recv]; omega⟩
  · obtain ⟨k, rfl⟩ := oweB_pos h
    exact ⟨by rw [L_tc]; exact Finset.mem_singleton_self _, by rw [lv_bar]; decide⟩

/-- The staging semaphores are at level 0. -/
theorem lv_stage : ∀ w : Fin 6, ∀ s, lvS (.dma ((win0 w).sem s)) = 0 := by decide

/-- So a device may wait on a staging semaphore whatever it owes. -/
theorem cut : Pipeline.LevelCutOwed (pcfgs (F := F)) adm (pdats m) () L lv 0 (fun _ => 0) where
  hι c w s := by rw [L_tc]; exact Finset.mem_singleton_self _
  hιb c w s := le_of_eq (lv_stage w s)
  hD c t g i h := by
    by_cases ht : t.val = 0
    · rw [show (pdats m 0 c).owed t = owe0 c from owed_first m c t ht] at h
      exact owe0_pos c g i h
    · rw [show (pdats m 0 c).owed t = 0 from owed_last m c t ht] at h
      exact absurd h (Nat.lt_irrefl 0)

/-- The result after the region. -/
theorem V2_result (c : Dev nD) : V2 m (outs m) c (Proc.devRef .tc main_v20) = result m c := by
  unfold V2
  rw [Function.update_self, outs_result]

/-- Writing all of an array leaves what was written. -/
theorem write_whole (b : Ref sig .tc) (off : Fin b.ty.shape.rank → ℕ) (h0 : ∀ a, off a = 0) (inb) (f g : b.ty.Contents (Elt F)) :
    ((View.whole b).slice (Rect.unit (s := b.ty.shape) off b.ty.shape.size inb)).write (Elt F) f g Finset.univ = g := by
  funext i
  have h := View.write_emb_of_mem (v := (View.whole b).slice (Rect.unit (s := b.ty.shape) off b.ty.shape.size inb)) (Val := Elt F) f g
    (M := Finset.univ) (x := i) (Finset.mem_univ _)
  rw [View.emb_slice] at h
  exact (congrArg _ (whole_emb off h0 inb i).symm).trans h

/-- What the arrays hold at the end: the inputs what they held, the result what the body left. -/
theorem arr_end (c : Dev nD) (w : Fin 6) :
    (dat0 m c).arrAt w cfg0.N = V2 m (outs m) c (Proc.devRef .tc (Pipeline.arrRef (Pipeline.pin (pcfgs (F := F)) adm 0).spec w)) := by
  fin_cases w
  · exact ((dat0 m c).arrAt_in (0 : Fin 6) rfl _).trans (V2_of m (outs m) c main_v15 (by decide)).symm
  · exact ((dat0 m c).arrAt_in (1 : Fin 6) rfl _).trans (V2_of m (outs m) c main_v9 (by decide)).symm
  · exact ((dat0 m c).arrAt_in (2 : Fin 6) rfl _).trans (V2_of m (outs m) c main_v17 (by decide)).symm
  · exact ((dat0 m c).arrAt_in (3 : Fin 6) rfl _).trans (V2_of m (outs m) c main_v19 (by decide)).symm
  · exact ((dat0 m c).arrAt_in (4 : Fin 6) rfl _).trans (V2_of m (outs m) c main_v14 (by decide)).symm
  · refine Eq.trans ?_ (V2_result m c).symm
    refine Eq.trans (b := (dat0 m c).arrAt (5 : Fin 6) (t0_0.val + 1)) rfl ?_
    rw [(dat0 m c).arrAt_succ (5 : Fin 6) t0_0, if_pos (flush0_5 _)]
    exact write_whole (F := F) main_v20 _ (fun a => Nat.zero_mul _) _ _ (result m c)

/-- The buffers that are no window's array. -/
abbrev others : Finset (DevRef τ sig) := Pipeline.ucRefs τ sig \ Pipeline.arrRefs (τ := τ) (pcfgs (F := F) 0).spec
/-- The result is a window's array. -/
theorem result_mem : Proc.devRef (τ := τ) .tc main_v20 ∈ Pipeline.arrRefs (τ := τ) (pcfgs (F := F) 0).spec :=
  Finset.mem_map_of_mem _ (Finset.mem_image_of_mem _ (Finset.mem_univ (5 : Fin 6)))
/-- The region changes none of them. -/
theorem off_result (c : Dev nD) : ∀ b ∈ others (F := F) \ ∅, V2 m (outs m) c b = V1 m c b := fun b hb => by
  have hn : b ≠ Proc.devRef .tc main_v20 := fun h => (Finset.mem_sdiff.mp (Finset.mem_sdiff.mp hb).1).2 (by rw [h]; exact result_mem)
  unfold V2
  exact Function.update_of_ne hn _ _

set_option backward.isDefEq.respectTransparency.types false in
/-- The region, as a segment of the program. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (others (F := F)) (Finset.empty_subset _) kit rfl (fun c => (body_ok m c).loose)
    (fun _ => 0) owe0 (fun c => (owed_first m c 0 rfl).trans (zero_add _).symm) (fun c => owed_last m c (Fin.last cfg0.N) (by decide)) (fun _ => rfl)
    (fun c w => by unfold Dat.share; split <;> rfl)
    (V1 m) (V2 m (outs m)) (off_result m)
    (Tk m) Yk (Xk m) Yk (hopen m) (hin m) (hout m)
    (fun c => by iintro H; imodintro; iexact H)
    (fun _ => 0) (cut m) (fun _ => iprop(emp))
    (fun c w => by fin_cases w <;> rfl) (arr_end m)

end Cert.Butterfly

end
-- ==== Proof.Launch.lean ====
/- The launch: every device's cells, tokens and credit dealt, the program's three segments chained, and the run of the
   whole program from any memory with zero counters. -/
module

public import proofs.«01_k».proof.Proof.Region

@[expose] public section

noncomputable section

namespace Cert.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

/-- The semaphore and the duty of each of a device's own tokens: its barrier's five, each exchange cell's one. -/
abbrev tokSem : Fin 5 ⊕ (Fin 10 ⊕ Fin 10) → SemLoc sig × Fin 5 := Sum.elim (fun k => (.reg barS, k)) (fun s => (osem s, 0))
/-- Different tokens are of different semaphores or duties. -/
theorem tokSem_inj : Function.Injective tokSem := by decide
def tokens : Finset (GSem nD τ sig × ℕ × Fin 5) :=
  Finset.univ.map ⟨fun cs : Dev nD × (Fin 5 ⊕ (Fin 10 ⊕ Fin 10)) => (((cs.1 : Thread nD τ), (tokSem cs.2).1), 0, (tokSem cs.2).2), fun _ _ h =>
    Prod.ext (congrArg (fun t : GSem nD τ sig × ℕ × Fin 5 => t.1.1.1) h)
      (tokSem_inj (Prod.ext (congrArg (fun t : GSem nD τ sig × ℕ × Fin 5 => t.1.2) h) (congrArg (fun t : GSem nD τ sig × ℕ × Fin 5 => t.2.2) h)))⟩

/-- No barrier cell is an exchange cell; -/
theorem disjoint_cells : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The tokens of every device's own cells, by device. -/
theorem tokens_eq : bigSep tokens (fun x => (dutyTok ER x.1 x.2.1 x.2.2 : sProp 𝕄))
    = iprop((bigSep Finset.univ fun c : Dev nD => bigSep Finset.univ fun k => dutyTok ER (barCell c) 0 k)
      ∗ (bigSep Finset.univ fun c : Dev nD => bigSep Finset.univ fun r => dutyTok ER (sendCell r c) 0 0)
      ∗ (bigSep Finset.univ fun c : Dev nD => bigSep Finset.univ fun r => dutyTok ER (recvCell r c) 0 0)) := by
  rw [← both, ← both]
  unfold tokens
  rw [bigSep_map, bigSep_univ_prod]
  refine bigSep_congr fun c _ => ?_
  rw [bigSep_univ_sum, bigSep_univ_sum]
  rfl

def flipEquiv (k : Fin 5) : Dev nD ≃ Dev nD := ⟨flip k, flip k, flip_flip k, flip_flip k⟩
def peerEquiv (r : Fin 10) : Dev nD ≃ Dev nD := ⟨peer r, peer r, peer_peer r, peer_peer r⟩

/-- Each barrier's token over bit `k` goes to the partner over bit `k`; -/
theorem tokens_bar : (bigSep Finset.univ fun c : Dev nD => bigSep Finset.univ fun k => (dutyTok ER (barCell c) 0 k : sProp 𝕄))
    = bigSep Finset.univ fun c : Dev nD => bigSep Finset.univ fun k => dutyTok ER (barCell (flip k c)) 0 k := by
  rw [bigSep_univ_comm, bigSep_univ_comm (fun (c : Dev nD) (k : Fin 5) => (dutyTok ER (barCell (flip k c)) 0 k : sProp 𝕄))]
  exact bigSep_congr fun k _ => bigSep_univ_equiv (flipEquiv k) (fun c : Dev nD => (dutyTok ER (barCell c) 0 k : sProp 𝕄))
/-- each receive cell's token goes to the round's partner. -/
theorem tokens_recv : (bigSep Finset.univ fun c : Dev nD => bigSep Finset.univ fun r => (dutyTok ER (recvCell r c) 0 0 : sProp 𝕄))
    = bigSep Finset.univ fun c : Dev nD => bigSep Finset.univ fun r => dutyTok ER (recvCell r (peer r c)) 0 0 := by
  rw [bigSep_univ_comm, bigSep_univ_comm (fun (c : Dev nD) (r : Fin 10) => (dutyTok ER (recvCell r (peer r c)) 0 0 : sProp 𝕄))]
  exact bigSep_congr fun r _ => bigSep_univ_equiv (peerEquiv r) (fun c : Dev nD => (dutyTok ER (recvCell r c) 0 0 : sProp 𝕄))

/-! ## The credit -/

/-- No barrier cell is a receive cell. -/
theorem bar_ne_recv (c d : Dev nD) (r : Fin 10) : barCell c ≠ recvCell r d := fun h =>
  osem_ne_bar (Sum.inr r) (congrArg Prod.snd h).symm
/-- Equal receive cells are of one round and one device. -/
theorem recvCell_inj {r r' : Fin 10} {c d : Dev nD} (h : recvCell r c = recvCell r' d) : r = r' ∧ c = d :=
  ⟨Sum.inr.inj (osem_inj (a₁ := Sum.inr r) (a₂ := Sum.inr r') (congrArg Prod.snd h)), congrArg (fun g : GSem nD τ sig => g.1.1) h⟩

/-- What the devices together owe a barrier: one unit over each bit. -/
theorem owed_bar (d c : Dev nD) : owe0 d (barCell c) () = ∑ k : Fin 5, if d = flip k c then 1 else 0 := by
  unfold owe0 oweR oweB
  rw [Pi.add_apply, Finsupp.add_apply, Finset.sum_apply, Finset.sum_apply, Finsupp.finset_sum_apply, Finsupp.finset_sum_apply]
  rw [Finset.sum_eq_zero fun r _ => by rw [tallyAt_apply, if_neg fun h => bar_ne_recv _ _ _ h.1], zero_add, Finset.filter_true_of_mem fun k _ => Nat.zero_le _]
  refine Finset.sum_congr rfl fun k _ => ?_
  rw [tallyAt_apply]
  by_cases h : d = flip k c
  · subst h; rw [flip_flip, if_pos ⟨rfl, rfl⟩, if_pos rfl]
  · rw [if_neg h, if_neg]
    rintro ⟨h1, -⟩
    exact h (by rw [show c = flip k d from congrArg (fun g : GSem nD τ sig => g.1.1) h1, flip_flip])
/-- What they owe a receive cell: the round's partner's copy. -/
theorem owed_recv (r : Fin 10) (d c : Dev nD) : owe0 d (recvCell r c) () = if d = peer r c then amt r else 0 := by
  unfold owe0 oweR oweB
  rw [Pi.add_apply, Finsupp.add_apply, Finset.sum_apply, Finset.sum_apply, Finsupp.finset_sum_apply, Finsupp.finset_sum_apply]
  rw [Finset.sum_eq_zero (s := Finset.univ.filter fun k : Fin 5 => 0 ≤ k.val) fun k _ => by rw [tallyAt_apply, if_neg fun h => bar_ne_recv _ _ _ h.1.symm],
    add_zero, Finset.filter_true_of_mem fun k _ => Nat.zero_le _]
  rw [Finset.sum_eq_single r (fun r' _ hr => by rw [tallyAt_apply, if_neg fun h => hr (recvCell_inj h.1).1.symm]) (fun h => absurd (Finset.mem_univ r) h), tallyAt_apply]
  by_cases h : d = peer r c
  · subst h; rw [peer_peer, if_pos ⟨rfl, rfl⟩, if_pos rfl]
  · rw [if_neg h, if_neg]
    rintro ⟨h1, -⟩
    exact h (by rw [(recvCell_inj h1).2, peer_peer])

/-- A barrier's credit at launch: five units. -/
theorem launch_bar (c : Dev nD) :
    tallyOn (barCell c) (launchCredit (Pipeline.owing owe0) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  rw [Finset.sum_congr rfl fun k _ => (Finset.sum_ite_eq' Finset.univ (flip k c) fun _ => 1).trans (if_pos (Finset.mem_univ _))]
  rfl
/-- A receive cell's: the round's copy. -/
theorem launch_recv (r : Fin 10) (c : Dev nD) :
    tallyOn (recvCell r c) (launchCredit (Pipeline.owing owe0) 0 (recvCell r c)) = (tallyAt (recvCell r c) () (amt r) : CellTallies nD τ sig Unit) := by
  unfold tallyAt; refine congrArg _ (Finsupp.ext fun u => ?_); cases u
  rw [Pipeline.launchCredit_owing, Finsupp.single_eq_same, Finset.sum_congr rfl fun d _ => owed_recv r d c,
    Finset.sum_ite_eq' Finset.univ (peer r c) fun _ => amt r, if_pos (Finset.mem_univ _)]

def recvEmb : Fin 10 ↪ SemLoc sig := ⟨fun r => .dma (recvS r), fun _ _ h => Sum.inr.inj (osem_inj (a₁ := Sum.inr _) (a₂ := Sum.inr _) h)⟩

/-- A device's launch credit covers what it waits with. -/
theorem credits_intro (c : Dev nD) : (Pipeline.launchCred owe0 c : sProp 𝕄) ⊢ credits c := by
  unfold Pipeline.launchCred credits
  rw [bigSep_univ_at _ (SemLoc.reg barS), launch_bar]
  refine sep_mono_right ?_
  have hs : Finset.univ.map recvEmb ⊆ (Finset.univ : Finset (SemLoc sig)).erase (.reg barS) := fun s hs => by
    obtain ⟨r, -, rfl⟩ := Finset.mem_map.mp hs
    exact Finset.mem_erase.mpr ⟨osem_ne_bar (Sum.inr r), Finset.mem_univ _⟩
  have he : (bigSep (Finset.univ.map recvEmb) fun sm => cred (tallyOn ((c.tc : Thread nD τ), sm) (launchCredit (Pipeline.owing owe0) 0 ((c.tc : Thread nD τ), sm))))
      = (bigSep Finset.univ fun r => cred (tallyAt (recvCell r c) () (amt r)) : sProp 𝕄) := by
    rw [bigSep_map]
    exact bigSep_congr fun r _ => congrArg cred (launch_recv r c)
  rw [← he]
  exact bigSep_subset hs

/-! ## The launch element -/

/-- The launch element: the pipeline's part and the exchange's. -/
def u₀ : UU :=
  (initOf (Pipeline.cells cfgs cellOf_inj) (Pipeline.launchToks cfgs cellOf_inj), launchOf barCells ownCells tokens)

/-- All of `X`, dealt to device 0. -/
def onFirst (X : sProp 𝕄) (c : Dev nD) : sProp 𝕄 := if c = 0 then X else iprop(emp)
/-- Dealt so, the devices together hold `X`. -/
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp
def G : Dev nD → sProp 𝕄 := onFirst (BI.own (ER (launchOf barCells ownCells tokens)))

/-! ## The states between the segments -/

/-- Beside the buffers: before the region, and after it. -/
def E : Fin 2 → Dev nD → sProp 𝕄
  | 0, c => iprop(Tk m c ∗ (∃ r, prngReg c r) ∗ ∃ W, owes (c : Thread nD τ) (owe0 c) W)
  | 1, c => iprop(semVal (barCell c) 0 ∗ ∃ W, owes (c : Thread nD τ) (0 : CellTallies nD τ sig Unit) W)

/-- The windows' arrays are among the program's buffers. -/
theorem arrs_sub : Pipeline.arrRefs (τ := τ) (pcfgs (F := F) 0).spec ⊆ Pipeline.ucRefs τ sig :=
  Pipeline.arrRefs_sub_ucRefs _ (by decide : ∀ w : Fin 6, (Pipeline.arrRef spec0 w).isScoped = false)

/-- What a device holds before the region is what the region asks for; -/
theorem enter (c : Dev nD) : iprop(StableHlo.held (c : Thread nD τ) (Pipeline.ucRefs τ sig) (V1 m c) ∗ E m 0 c) ⊢ ((reg m).pre c : sProp 𝕄) := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (others (F := F)) (V1 m c) ∗ emp) ∗ Tk m c ∗ ∃ Wd, owes (c : Thread nD τ) (0 + owe0 c) Wd)
  rw [zero_add, StableHlo.held_sub_split (c : Thread nD τ) (arrs_sub (F := F)) (V1 m c)]
  unfold E
  iintro ⟨⟨HA, HS⟩, HT, Hp, HO⟩
  isplitl [HA]; · iexact HA
  isplitl [Hp]; · iexact Hp
  isplitl [HS]
  · isplitl [HS]; · iexact HS
    iempintro
  isplitl [HT] <;> iassumption

/-- what the region gives back is what it holds after. -/
theorem leave (c : Dev nD) : ((reg m).post c : sProp 𝕄) ⊢ iprop(StableHlo.held (c : Thread nD τ) (Pipeline.ucRefs τ sig) (V2 m (outs m) c) ∗ E m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (others (F := F)) (V2 m (outs m) c) ∗ emp) ∗ Yk c ∗ ∃ Wd, owes (c : Thread nD τ) (0 : CellTallies nD τ sig Unit) Wd) ⊢ _
  rw [StableHlo.held_sub_split (c : Thread nD τ) (arrs_sub (F := F)) (V2 m (outs m) c)]
  unfold Yk E
  iintro ⟨HA, -, ⟨HS, -⟩, HB, HO⟩
  isplitl [HA HS]; · isplitl [HA] <;> iassumption
  isplitl [HB] <;> iassumption

/-- What of a device's launch holdings is not the exchange's ghost state. -/
def bundle (c : Dev nD) : sProp 𝕄 :=
  iprop(StableHlo.held (c : Thread nD τ) (Pipeline.ucRefs τ sig) (V0 m c) ∗ credits c ∗ owes (c : Thread nD τ) (owe0 c) ∅ ∗ ∃ r, prngReg c r)

abbrev T₀ (c : Dev nD) : sProp 𝕄 := iprop(StableHlo.held (c : Thread nD τ) (Pipeline.ucRefs τ sig) (V0 m c) ∗ E m 0 c)
abbrev Tₙ (c : Dev nD) : sProp 𝕄 := iprop(StableHlo.held (c : Thread nD τ) (Pipeline.ucRefs τ sig) (V3 m (outs m) c) ∗ semVal (barCell c) 0)

/-- The cells' invariants, its own ghost state and its other holdings are what a device starts with. -/
theorem start_intro (κ : GSem nD τ sig → ℕ) (c : Dev nD) : iprop(given m κ ∗ (stock c ∗ bundle m c)) ⊢ (T₀ m c : sProp 𝕄) := by
  unfold bundle T₀ E Tk
  iintro ⟨#HG, Hs, Hh, Hc, HO, Hp⟩
  isplitl [Hh]; · iexact Hh
  isplitl [Hs Hc]
  · isplitr; · iexists κ; iexact HG
    isplitl [Hs] <;> iassumption
  isplitl [Hp]; · iexact Hp
  iexists ∅; iexact HO

/-- The unscoped semaphores are the barriers. -/
theorem unscoped_eq : ∀ sm : SemLoc sig, sm.isScoped .tc = false → sm = .reg barS := by decide
/-- So a device's is its barrier's counter. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- From what the launch hands the devices to the state each starts in: every cell's invariant made, the tokens dealt to
    those who pay. -/
theorem init :
    iprop((bigSep Finset.univ fun c : Dev nD => iprop(unscopedBufs c (fun b => m ((c.tc : Thread nD τ).loc b)) ∗ unscopedSems0 c
          ∗ owes (c.tc : Thread nD τ) (owe0 c) ∅ ∗ Pipeline.launchCred owe0 c ∗ prngReg c (ρ c) ∗ G c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (owe0 c) ∅ ∗ Pipeline.launchCred owe0 c ∗ prngReg c (ρ c) ∗ G c)
      ⊢ (iprop(bundle m c ∗ (semVal (barCell c) 0 ∗ G c)) : sProp 𝕄) := by
    rw [show unscopedBufs c (fun b => m ((c.tc : Thread nD τ).loc b)) = (StableHlo.held (c : Thread nD τ) (Pipeline.ucRefs τ sig) (V0 m c) : sProp 𝕄)
        from Pipeline.unscopedBufs_held (Ix := Unit) (Name := ℕ) (U := UU) (Lvl := ℕ) c (V0 m c), unscopedSems_eq]
    unfold bundle
    iintro ⟨Hh, Hs, HO, Hc, Hp, HG⟩
    isplitl [Hh HO Hc Hp]
    · isplitl [Hh]; · iexact Hh
      isplitl [Hc]; · iapply (credits_intro (F := F) c) $$ Hc
      isplitl [HO]; · iexact HO
      iexists (ρ c); iexact Hp
    isplitl [Hs] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ iprop((bigSep Finset.univ fun c : Dev nD => bigSep Finset.univ fun r => openTok ER (sendCell r c))
        ∗ (bigSep Finset.univ fun c : Dev nD => bigSep Finset.univ fun r => openTok ER (recvCell r c))) := by
    rw [← both, bigSep_map, bigSep_univ_prod]
    refine Entails.of_eq (bigSep_congr fun c _ => ?_)
    rw [bigSep_univ_sum]; rfl
  have hst : (bigSep Finset.univ fun c : Dev nD => (stock c : sProp 𝕄)) = iprop((bigSep Finset.univ fun c : Dev nD => atPos ER (barCell c) 0 ∅ 0)
      ∗ (bigSep Finset.univ fun c : Dev nD => bigSep Finset.univ fun k => dutyTok ER (barCell (flip k c)) 0 k)
      ∗ (bigSep Finset.univ fun c : Dev nD => bigSep Finset.univ fun r => openTok ER (sendCell r c))
      ∗ (bigSep Finset.univ fun c : Dev nD => bigSep Finset.univ fun r => openTok ER (recvCell r c))
      ∗ (bigSep Finset.univ fun c : Dev nD => bigSep Finset.univ fun r => dutyTok ER (sendCell r c) 0 0)
      ∗ (bigSep Finset.univ fun c : Dev nD => bigSep Finset.univ fun r => dutyTok ER (recvCell r (peer r c)) 0 0)) := by
    rw [← both, ← both, ← both, ← both, ← both]; rfl
  iintro ⟨H, -⟩
  ihave H1 := (show (bigSep Finset.univ fun c : Dev nD => iprop(unscopedBufs c (fun b => m ((c.tc : Thread nD τ).loc b)) ∗ unscopedSems0 c
          ∗ owes (c.tc : Thread nD τ) (owe0 c) ∅ ∗ Pipeline.launchCred owe0 c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (Entails.of_eq (both _ _)) $$ H1; icases H2 with ⟨HB, H3⟩
  ihave H4 := (Entails.of_eq (both _ _)) $$ H3; icases H4 with ⟨Hv, HG⟩
  ihave Hu := (show bigSep Finset.univ (G (F := F)) ⊢ BI.own (ER (launchOf barCells ownCells tokens)) from Entails.of_eq (bigSep_onFirst _)) $$ HG
  imod (Rounds.fund_launch ER (sched (part m)) disjoint_cells (fun g _ h => h) tokens) $$ [Hv Hu] with ⟨%κ, -, #Hinv, #Hr, Hat, Hop, Htok⟩
  · isplitl [Hv]
    · iapply hv $$ Hv
    · iexact Hu
  ihave Ht := (Entails.of_eq (tokens_eq (F := F))) $$ Htok
  icases Ht with ⟨HtB, HtS, HtV⟩
  ihave HtB := (Entails.of_eq (tokens_bar (F := F))) $$ HtB
  ihave HtV := (Entails.of_eq (tokens_recv (F := F))) $$ HtV
  ihave Ho := hop $$ Hop
  icases Ho with ⟨HoS, HoV⟩
  imodintro
  iapply (bigSep_with_persistent (R := given m κ) (Φ := fun c => iprop(stock c ∗ bundle m c)) fun c _ => start_intro m κ c)
  isplitr
  · unfold given
    isplitr; · iexact Hinv
    iexact Hr
  iapply (Entails.of_eq (both _ _).symm)
  isplitr [HB]
  · rw [hst]
    isplitl [Hat]; · iapply hat $$ Hat
    isplitl [HtB]; · iexact HtB
    isplitl [HoS]; · iexact HoS
    isplitl [HoV]; · iexact HoV
    isplitl [HtS] <;> iassumption
  · iexact HB

/-! ## The run -/

/-- What a final memory of device `c` is: the arguments as launched, the result what the last host stretch makes of the
    region's result, the barrier's counter at zero. -/
def Ends (c : Dev nD) (s : MemSt nD τ sig (Elt F)) : Prop :=
  (s.mem ((c.tc : Thread nD τ).loc main_v21) = V3 m (outs m) c main_v21
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))

/-- What a device holds at the end tells what memory ends with, and that its barrier is at zero. -/
theorem read_end (c : Dev nD) (s' : Phys nD τ sig (Elt F)) :
    (iprop(Tₙ m c ∗ SI s') : sProp 𝕄) ⊢ |={Set.univ}=> iprop(⌜Ends m c s'.mem ∧ s'.mem.sem (barCell c) = 0⌝ ∗ SI s') := by
  unfold Tₙ StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    have at_ (r : Ref sig .tc) (hr : r.isScoped = false) : s'.mem.mem ((c.tc : Thread nD τ).loc r) = V3 m (outs m) c r :=
      h (Proc.devRef .tc r) (Finset.mem_filter.mpr ⟨StableHlo.devRef_mem_tcRefs r, fun h' => Bool.false_ne_true (hr.symm.trans h')⟩)
    exact ⟨⟨at_ main_v21 rfl, (at_ main_arg0 rfl).trans (V3_main_arg0 m (outs m) c), (at_ main_arg1 rfl).trans (V3_main_arg1 m (outs m) c),
      (at_ main_arg2 rfl).trans (V3_main_arg2 m (outs m) c), (at_ main_arg3 rfl).trans (V3_main_arg3 m (outs m) c),
      (at_ main_arg4 rfl).trans (V3_main_arg4 m (outs m) c)⟩, by simpa using hb⟩
  · iexact HSI

set_option backward.isDefEq.respectTransparency.types false in
/-- THE RUN: from any memory with zero counters every weakly fair execution of the program terminates, every device's
    arguments as launched, its result the sum the ten rounds make, and every semaphore counter at zero. -/
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Pipeline.Seg.run_eq_chain,
        show (segs m (outs m) 𝒱₀ L lv (E m) () (pdats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) owe0 L_of_ne G u₀ ?_
    (T₀ := T₀ m) (Tₙ := Tₙ m)
    (hch := fun c => ⟨.rfl, enter m c, leave m c, ?_⟩)
    (hinit := init m ρ) (QY := fun c s => Ends m c s ∧ s.sem (barCell c) = 0) (hfin := read_end m)
    (hQ := fun s h hs => ⟨fun c => (h c).1, sem_eq_zero hs fun c sm hsm => by
      obtain rfl := unscoped_eq sm hsm
      exact (h c).2⟩)
  · unfold u₀ G
    iintro Hu
    ihave H := (ownU_pair _ _) $$ Hu
    icases H with ⟨HP, HX⟩
    imodintro
    isplitl [HP]; · iexact HP
    rw [bigSep_onFirst]; iexact HX
  · show iprop(StableHlo.held (c : Thread nD τ) (Pipeline.ucRefs τ sig) (V3 m (outs m) c)
        ∗ (semVal (barCell c) 0 ∗ ∃ W, owes (c : Thread nD τ) (0 : CellTallies nD τ sig Unit) W))
      ⊢ (iprop(Tₙ m c ∗ ∃ W, owes (c : Thread nD τ) (0 : CellTallies nD τ sig Unit) W) : sProp 𝕄)
    iintro ⟨Hh, Hb, HO⟩
    isplitr [HO]
    · isplitl [Hh] <;> iassumption
    · iexact HO

end Cert.Butterfly

end
-- ==== Proof.Frames.lean ====
/- The frames: both readings of the kernel, and the reference, run to the end, fault-free, with every argument unchanged and
   every semaphore counter at zero. -/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The kernel at the ideal instance terminates, its arguments unchanged, its counters at zero. -/
theorem frame_ideal : Cert.quiescent_KernelIdeal := fun m ρ _ =>
  (θ_run Cert.KernelIdeal.defs _ _).mono (fun _ h => ⟨fun c => (h.1 c).2, h.2⟩) (run_main (F := Ideal) m ρ)

/-- The two readings' body tables are one table: one label, one body. -/
theorem bodies_same : Cert.Kernel.defs₀ (F := F) = Cert.KernelIdeal.defs₀ := by
  unfold Cert.Kernel.defs₀ Cert.KernelIdeal.defs₀
  congr 1
  funext f a
  revert a; revert f
  rintro ⟨_ | _, h⟩ a
  · rfl
  · exact absurd h (by omega)
/-- So the two whole tables are one. -/
theorem defs_same : Cert.Kernel.defs (F := F) = Cert.KernelIdeal.defs :=
  congrArg (fun D => Pipeline.defs (Cert.KernelIdeal.pcfgs (F := F)) D) bodies_same

/-- The kernel at the float words, whose text is the same, likewise. -/
theorem frame_kernel : Cert.quiescent_Kernel := fun m ρ _ => by
  have h := (θ_run Cert.KernelIdeal.defs _ _).mono (fun _ h => And.intro (fun c => (h.1 c).2) h.2) (run_main (F := Bits) m ρ)
  rw [← defs_same] at h
  exact h

/-- The reference likewise; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Butterfly

end
-- ==== Proof.AllReduce.lean ====
/- The exchange over the extended reals: after the ten rounds every device's result is the sum of all devices' partial results. -/
module

public import proofs.«01_k».proof.Proof.Region
public import Idealize.ShloMosaic.PureOps.Ideal
public import Idealize.ShloMosaic.Lib.Pointwise

@[expose] public section

noncomputable section

namespace Cert.Butterfly

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-! ## Which rows a device is responsible for -/

/-- The first row device `c` still sums after `n` reduce-scatter rounds. -/
def base : ℕ → Dev nD → ℕ
  | 0, _ => 0
  | n + 1, c => base n c + (c.val / 2 ^ n % 2) * (512 / 2 ^ n)
/-- How many rows that is. -/
def rowsLeft (n : ℕ) : ℕ := 1024 / 2 ^ n
/-- Row `i` is one of them. -/
def Mine (n : ℕ) (c : Dev nD) (i : S1024x768.Idx) : Prop := base n c ≤ (i 0).val ∧ (i 0).val < base n c + rowsLeft n
/-- The devices whose numbers agree with `c`'s from bit `n` on. -/
def group (n : ℕ) (c : Dev nD) : Finset (Dev nD) := Finset.univ.filter fun d => d.val / 2 ^ n = c.val / 2 ^ n

/-- At first a device sums only its own part; -/
theorem group_zero : ∀ c : Dev nD, group 0 c = {c} := by decide +kernel
/-- a round adds the group of the partner, -/
theorem group_succ : ∀ (k : Fin 5) (c : Dev nD), group (k.val + 1) c = group k.val c ∪ group k.val (flip k c) := by decide +kernel
/-- which is another one; -/
theorem group_disj : ∀ (k : Fin 5) (c : Dev nD), Disjoint (group k.val c) (group k.val (flip k c)) := by decide +kernel
/-- after five rounds all devices are in. -/
theorem group_five : ∀ c : Dev nD, group 5 c = Finset.univ := by decide +kernel

/-- What a round's partner sends are the rows the round writes. -/
theorem ld_st : ∀ (r : Fin 10) (c : Dev nD) (a : Fin 2), ldOff r (peer r c) a = stOff r c a := by decide +kernel
/-- A round writes whole rows. -/
theorem st_col : ∀ (r : Fin 10) (c : Dev nD), stOff r c 1 = 0 := by decide +kernel
/-- A reduce-scatter round writes the rows the device goes on summing, -/
theorem st_lo : ∀ (k : Fin 5) (c : Dev nD), stOff (lo k) c 0 = base (k.val + 1) c := by decide +kernel
/-- all of them; -/
theorem len_lo : ∀ k : Fin 5, len (lo k) = rowsLeft (k.val + 1) := by decide +kernel
/-- they lie within those it summed before, -/
theorem base_in : ∀ (k : Fin 5) (c : Dev nD), base k.val c ≤ base (k.val + 1) c ∧ base (k.val + 1) c + rowsLeft (k.val + 1) ≤ base k.val c + rowsLeft k.val := by decide +kernel
/-- which are also those its partner summed before. -/
theorem base_flip : ∀ (k : Fin 5) (c : Dev nD), base k.val (flip k c) = base k.val c := by decide +kernel
/-- An all-gather round writes the rows the partner holds finished, -/
theorem st_hi : ∀ (k : Fin 5) (c : Dev nD), stOff (hi k) c 0 = base (5 - k.val) (peer (hi k) c) := by decide +kernel
/-- all of them; -/
theorem len_hi : ∀ k : Fin 5, len (hi k) = rowsLeft (5 - k.val) := by decide +kernel
/-- with the device's own they are the twice as many rows finished after the round. -/
theorem base_join : ∀ (k : Fin 5) (c : Dev nD),
    (base (4 - k.val) c = base (5 - k.val) c ∧ base (5 - k.val) (peer (hi k) c) = base (5 - k.val) c + rowsLeft (5 - k.val)
      ∨ base (4 - k.val) c = base (5 - k.val) (peer (hi k) c) ∧ base (5 - k.val) c = base (5 - k.val) (peer (hi k) c) + rowsLeft (5 - k.val))
    ∧ rowsLeft (4 - k.val) = rowsLeft (5 - k.val) + rowsLeft (5 - k.val) := by decide +kernel

/-- Which elements a round writes. -/
theorem st_mem (r : Fin 10) (c : Dev nD) (i : S1024x768.Idx) :
    i ∈ (stRect r c).set ↔ stOff r c 0 ≤ (i 0).val ∧ (i 0).val < stOff r c 0 + len r := by
  rw [Rect.mem_set_unit]
  constructor
  · intro h; exact h 0
  · intro h a
    match a with
    | ⟨0, _⟩ => exact h
    | ⟨1, _⟩ =>
      refine ⟨?_, ?_⟩
      · show stOff r c 1 ≤ _
        rw [st_col]; exact Nat.zero_le _
      · show _ < stOff r c 1 + 768
        rw [st_col, Nat.zero_add]; exact (i 1).isLt

/-- A result's element, as an extended real. -/
abbrev elem (g : OutB Ideal) (i : S1024x768.Idx) : EReal := g i

variable (P : Dev nD → OutB Ideal)

/-- The rows a round writes: in a reduce-scatter round the own rows plus the partner's, in an all-gather round the partner's. -/
theorem step_in (r : Fin 10) (c : Dev nD) {i : S1024x768.Idx} (h : i ∈ (stRect r c).set) :
    elem (content P (r.val + 1) c) i
      = if r.val < 5 then elem (content P r.val c) i + elem (content P r.val (peer r c)) i else elem (content P r.val (peer r c)) i := by
  rw [← Rect.map_emb_univ] at h
  obtain ⟨x, -, rfl⟩ := Finset.mem_map.mp h
  have he : (ldRect r (peer r c)).emb x = (stRect r c).emb x := by
    funext a
    refine Fin.ext ?_
    show ldOff r (peer r c) a + 1 * _ = stOff r c a + 1 * _
    rw [ld_st]
  have hc : come P r c x = content P r.val (peer r c) ((stRect r c).emb x) := by
    rw [← he]
    unfold come sent down
    rw [shapeCast_id, shapeCast_id]
    rfl
  rw [content_succ, step]
  refine (put_in (stRect r c) _ _ x).trans ?_
  split
  · unfold fold
    rw [shapeCast_id]
    exact congrArg (elem (content P r.val c) ((stRect r c).emb x) + ·) hc
  · exact hc

/-- The other rows stay. -/
theorem step_out (r : Fin 10) (c : Dev nD) {i : S1024x768.Idx} (h : i ∉ (stRect r c).set) :
    elem (content P (r.val + 1) c) i = elem (content P r.val c) i := by
  rw [content_succ, step]
  exact put_out (stRect r c) _ _ h

/-- After `n` reduce-scatter rounds a device's rows hold the sum over its group. -/
theorem scatter_sum (n : ℕ) (hn : n ≤ 5) : ∀ (c : Dev nD) (i : S1024x768.Idx), Mine n c i → elem (content P n c) i = ∑ d ∈ group n c, elem (P d) i := by
  induction n with
  | zero => intro c i _; rw [group_zero, Finset.sum_singleton]; rfl
  | succ n ih =>
    intro c i h
    have hk : n < 5 := hn
    have ih := ih (Nat.le_of_succ_le hn)
    have hb := base_in ⟨n, hk⟩ c
    have hf := base_flip ⟨n, hk⟩ c
    have hm : i ∈ (stRect (lo ⟨n, hk⟩) c).set := by
      rw [st_mem, st_lo, len_lo]; exact h
    have h0 : Mine n c i := by
      unfold Mine at h ⊢
      dsimp only at hb
      omega
    have h1 : Mine n (flip ⟨n, hk⟩ c) i := by
      unfold Mine at h0 ⊢
      dsimp only at hf
      rw [hf]; exact h0
    have hs := step_in P (lo ⟨n, hk⟩) c hm
    rw [if_pos (show (lo ⟨n, hk⟩).val < 5 from hk), show peer (lo ⟨n, hk⟩) c = flip ⟨n, hk⟩ c from congrArg (flip · c) (kb_lo ⟨n, hk⟩)] at hs
    refine Eq.trans hs ?_
    rw [show group (n + 1) c = _ from group_succ ⟨n, hk⟩ c, Finset.sum_union (group_disj ⟨n, hk⟩ c)]
    exact congrArg₂ (· + ·) (ih c i h0) (ih _ i h1)

/-- After `n` all-gather rounds twice as many rows hold the whole sum. -/
theorem gather_sum (n : ℕ) (hn : n ≤ 5) : ∀ (c : Dev nD) (i : S1024x768.Idx), Mine (5 - n) c i → elem (content P (5 + n) c) i = ∑ d, elem (P d) i := by
  induction n with
  | zero => intro c i h; rw [← group_five c]; exact scatter_sum P 5 (le_refl 5) c i h
  | succ n ih =>
    intro c i h
    have hk : n < 5 := hn
    have ih := ih (Nat.le_of_succ_le hn)
    have hj := base_join ⟨n, hk⟩ c
    by_cases hm : i ∈ (stRect (hi ⟨n, hk⟩) c).set
    · have hs := step_in P (hi ⟨n, hk⟩) c hm
      rw [if_neg (show ¬ (hi ⟨n, hk⟩).val < 5 from by show ¬ 5 + n < 5; omega)] at hs
      refine Eq.trans hs (ih _ i ?_)
      rw [st_mem, st_hi, len_hi] at hm
      exact hm
    · refine Eq.trans (step_out P (hi ⟨n, hk⟩) c hm) (ih c i ?_)
      rw [st_mem, st_hi, len_hi] at hm
      have e : 5 - (n + 1) = 4 - n := by omega
      rw [e] at h
      unfold Mine at h ⊢
      dsimp only at hj hm
      omega

/-- After all rounds every device holds the sum over all devices. -/
theorem content_sum (c : Dev nD) (i : S1024x768.Idx) : elem (content P 10 c) i = ∑ d, elem (P d) i :=
  gather_sum P 5 (le_refl 5) c i ⟨Nat.zero_le _, by rw [show base (5 - 5) c = 0 from rfl, Nat.zero_add]; exact (i 0).isLt⟩

/-- The kernel's result on every device is the sum of all devices' partial results. -/
theorem result_sum (m : (ℓ : Loc nD τ sig) → Buf (Elt Ideal) ℓ) (c : Dev nD) (i : S1024x768.Idx) : elem (result m c) i = ∑ d, elem (partialOf (insOf m d)) i := by
  rw [result_eq, content_sum]
  exact Finset.sum_congr rfl fun d _ => by rw [part_eq]

end Cert.Butterfly

end
-- ==== Proof.Attention.lean ====
/- The mathematics both programs compute, over the extended reals: block-strided attention, one head and one row at a time. -/
module

public import Idealize.ShloMosaic.PureOps.Ideal
public import Idealize.ShloMosaic.Lib.Pointwise

@[expose] public section

noncomputable section

namespace Cert.Butterfly

open Idealize.ShloMosaic

/-- Position `r` attends to position `j`: their blocks of 64 have the same number mod 4. -/
def Sees (r j : Fin 512) : Prop := r.val / 64 % 4 = j.val / 64 % 4
instance (r j : Fin 512) : Decidable (Sees r j) := by unfold Sees; infer_instance

/-- The scores of one query against all positions: scaled products where seen, the fill value elsewhere. -/
def scoresOf (r : Fin 512) (q : Fin 64 → EReal) (k : Fin 512 → Fin 64 → EReal) (j : Fin 512) : EReal :=
  if Sees r j then (∑ d, q d * k j d) * Ideal.ofBits .f32 0x3E000000#32 else Ideal.ofBits .f32 0xCE6E6B28#32
/-- The exponentials of the scores below their maximum. -/
def expsOf (s : Fin 512 → EReal) (j : Fin 512) : EReal :=
  Ideal.exp (s j - (Finset.univ : Finset (Fin 512)).fold max (Ideal.ofBits .f32 0xFF800000#32) s)
/-- The attention weights. -/
def weightsOf (s : Fin 512 → EReal) (j : Fin 512) : EReal := Ideal.div (expsOf s j) (∑ j', expsOf s j')
/-- One head's row of the context. -/
def ctxOf (r : Fin 512) (q : Fin 64 → EReal) (k v : Fin 512 → Fin 64 → EReal) (d : Fin 64) : EReal :=
  ∑ j, weightsOf (scoresOf r q k) j * v j d
/-- One head's row of the result. -/
def headOf (r : Fin 512) (x : Fin 768 → EReal) (wq : Fin 768 → Fin 64 → EReal) (k v : Fin 512 → Fin 64 → EReal)
    (wo : Fin 64 → EReal) : EReal :=
  ∑ d, ctxOf r (fun d => ∑ e, x e * wq e d) k v d * wo d

/-- A sum over `n * k` numbers, cut into `n` runs of `k`. -/
theorem sum_pairs {n k N : ℕ} (hN : N = n * k) (f : Fin N → EReal) :
    ∑ i, f i = ∑ a : Fin n, ∑ b : Fin k, f ⟨a.val * k + b.val, by
      rw [hN]
      calc a.val * k + b.val < a.val * k + k := by have := b.isLt; omega
        _ = (a.val + 1) * k := by rw [Nat.add_mul, Nat.one_mul]
        _ ≤ n * k := Nat.mul_le_mul_right _ a.isLt⟩ := by
  subst hN
  rw [← Equiv.sum_comp finProdFinEquiv f, Fintype.sum_prod_type]
  refine Finset.sum_congr rfl fun a _ => Finset.sum_congr rfl fun b _ => congrArg f (Fin.ext ?_)
  show b.val + k * a.val = a.val * k + b.val
  rw [Nat.mul_comm, Nat.add_comm]

end Cert.Butterfly

end
-- ==== Proof.Local.lean ====
/- The kernel's local computation over the extended reals, read at an element: the sum over a device's eight heads of what each
   contributes. -/
module

public import proofs.«01_k».proof.Proof.Attention
public import proofs.«01_k».proof.Proof.Compute

@[expose] public section

noncomputable section

namespace Cert.Butterfly

open Idealize.ShloMosaic Idealize.ShloMosaic.TcCoe
open Idealize.SL Idealize.SL.Sem
open Cert.KernelIdeal Cert.KernelIdeal.Gen

/-! ## The mask -/

/-- The remainder mod 4 of the block of 64 each row is in, as the kernel computes it. -/
def rowMod : IVec S512x512 32 := k0_pay3 (iota .tc S512x512 32 [0] iota_S512x512_d0_w32) 64#32 k0_pay1 k0_pay2 0#32

/-- At a row it is the remainder of its block. -/
theorem row_mod (r j : Fin 512) : rowMod (ix2 r j) = BitVec.ofNat 32 (r.val / 64 % 4) := by
  unfold rowMod k0_pay3 k0_pay1 k0_pay2
  pointwise
  revert r
  decide +kernel

/-- The mask at a row and a column. -/
theorem mask_at (r j : Fin 512) : mask (ix2 r j) = if Sees r j then 1#1 else 0#1 := by
  have e : mask = k0_pay6 (iota .tc S512x512 32 [1] iota_S512x512_d1_w32) rowMod
    64#32 (k0_pay4 (iota .tc S512x512 32 [1] iota_S512x512_d1_w32)) (k0_pay5 (iota .tc S512x512 32 [1] iota_S512x512_d1_w32))
    (Scalar.extui (Scalar.cmpi .sgt 64#32 0#32)) := rfl
  rw [e]
  unfold k0_pay4 k0_pay5 k0_pay6
  pointwise
  rw [row_mod]
  show _ = if r.val / 64 % 4 = j.val / 64 % 4 then 1#1 else 0#1
  obtain ⟨a, ha⟩ : ∃ a : Fin 4, a.val = r.val / 64 % 4 := ⟨⟨r.val / 64 % 4, Nat.mod_lt _ (by decide)⟩, rfl⟩
  rw [← ha]
  clear e ha
  revert a j
  decide +kernel

/-! ## One head -/

variable {F : FTy → Type} [FloatOps F]

/-- The masked, scaled scores of one head. -/
def scores (q : FVec F S512x64 .f32) (k : Vec F S1x64x512 .f32) : FVec F S512x512 .f32 :=
  select mask
    (mulf (matmul dot_S512x64_S64x512_S512x512_1_0_0_1_n_n none q (shapeCast S64x512 k shapeCasts_S1x64x512_S64x512) (constant S512x512 .f32 0x00000000#32))
      (broadcast S512x512 (Scalar.ofBits .f32 0x3E000000#32)))
    (broadcast S512x512 (Scalar.ofBits .f32 0xCE6E6B28#32))
/-- The exponentials of `s` below its rows' maxima. -/
def exps (s : FVec F S512x512 .f32) : FVec F S512x512 .f32 :=
  exp (subf s (broadcastTo S512x512
    (shapeCast S512x1 (multiReduction .maximumf [1] S512 s 0xFF800000#32 reduces_S512x512_S512 (.inl rfl) rfl) shapeCasts_S512_S512x1)
    broadcasts_S512x1_S512x512))
/-- The weights are the exponentials divided by their row sums. -/
theorem weights_eq (q : FVec F S512x64 .f32) (k : Vec F S1x64x512 .f32) : weights q k = divf (exps (scores q k)) (broadcastTo S512x512
    (shapeCast S512x1 (multiReduction .add [1] S512 (exps (scores q k)) 0x00000000#32 reduces_S512x512_S512 (.inl rfl) rfl) shapeCasts_S512_S512x1)
    broadcasts_S512x1_S512x512) := rfl

/-- One head's scores at a row and a column; -/
theorem scores_at (q : FVec Ideal S512x64 .f32) (k : Vec Ideal S1x64x512 .f32) (r j : Fin 512) :
    scores q k (ix2 r j) = scoresOf r (fun d => q (ix2 r d)) (fun j d => k (ix3 0 d j)) j := by
  unfold scores scoresOf
  pointwise [dot_S512x64_S64x512_S512x512_1_0_0_1_n_n]
  rw [mask_at]
  by_cases hs : Sees r j
  · rw [if_pos hs, if_pos hs]; rfl
  · rw [if_neg hs, if_neg hs]; rfl

/-- the exponentials of a row; -/
theorem exps_at (s : FVec Ideal S512x512 .f32) (r j : Fin 512) : exps s (ix2 r j) = expsOf (fun j => s (ix2 r j)) j := by
  unfold exps expsOf
  pointwise

/-- One head's weights at a row and a column. -/
theorem weights_at (q : FVec Ideal S512x64 .f32) (k : Vec Ideal S1x64x512 .f32) (r j : Fin 512) :
    weights q k (ix2 r j) = weightsOf (scoresOf r (fun d => q (ix2 r d)) (fun j d => k (ix3 0 d j))) j := by
  rw [weights_eq]
  unfold weightsOf
  pointwise
  rw [exps_at, Finset.sum_congr rfl fun x _ => exps_at (scores q k) r x, funext fun j => scores_at q k r j]

/-- One head adds to the accumulator its context times its rows of the output weights. -/
theorem head_at (h : ℕ) (hh : h < 8) (q : FVec Ideal S512x512 .f32) (acc : FVec Ideal S512x768 .f32) (k : Vec Ideal S1x64x512 .f32)
    (v : Vec Ideal S1x512x64 .f32) (w : Vec Ideal S64x768 .f32) (r : Fin 512) (l : Fin 768) :
    headStep h hh q acc k v w (ix2 r l) = acc (ix2 r l) + ∑ d : Fin 64, ctxOf r (fun d => q (ix2 r ⟨64 * h + d.val, by omega⟩)) (fun j d => k (ix3 0 d j))
      (fun j d => v (ix3 0 j d)) d * w (ix2 d l) := by
  unfold headStep
  pointwise [dot_S512x64_S64x768_S512x768_1_0_0_1_n_n, dot_S512x512_S512x64_S512x64_1_0_0_1_n_n, weights_at]
  rfl

/-- A batch's queries at an element, from the batch's rows, -/
theorem queries_at (x : Vec Ideal S512x768 .f32) (wq : Vec Ideal S768x512 .f32) (r : Fin 512) (d : Fin 512) :
    queries x wq (ix2 r d) = ∑ e, x (ix2 r e) * wq (ix2 e d) := by
  unfold queries
  pointwise [dot_S512x768_S768x512_S512x512_1_0_0_1_n_n]

/-! ## The eight heads of a batch -/

/-- Column `d` of head `h` among a device's columns. -/
abbrev narrow (h : Fin 8) (d : Fin 64) : Fin 512 := ⟨64 * h.val + d.val, by omega⟩
/-- Row `r` of batch `b` among all rows. -/
abbrev tall (b : Fin 2) (r : Fin 512) : Fin 1024 := ⟨512 * b.val + r.val, by omega⟩
/-- Head `h` of batch `b` among both batches' heads. -/
abbrev pack (b : Fin 2) (h : Fin 8) : Fin 16 := ⟨8 * b.val + h.val, by omega⟩

/-- Where an element of a rectangle of unit strides lies. -/
theorem emb_eq {s : Shape} (off size : Fin s.rank → ℕ) (inb : ∀ a, off a + size a ≤ s.size a) (x : (Rect.unit off size inb).shape.Idx) (i : s.Idx)
    (h : ∀ a, off a + (x a).val = (i a).val) : (Rect.unit off size inb).emb x = i :=
  funext fun a => Fin.ext ((congrArg (off a + ·) (Nat.one_mul _)).trans (h a))

/-- A read element, as an extended real. -/
abbrev ideal (a : Elt Ideal .f32) : EReal := a

/-- What head `h` of device inputs `I` contributes to row `r`, column `l` of batch `b`. -/
def headIn (I : Ins Ideal) (b : Fin 2) (r : Fin 512) (l : Fin 768) (h : Fin 8) : EReal :=
  headOf r (fun e => I.x (ix2 (tall b r) e)) (fun e d => I.wq (ix2 e (narrow h d))) (fun j d => I.k (ix3 (pack b h) d j))
    (fun j d => I.v (ix3 (pack b h) j d)) (fun d => I.wo (ix2 (narrow h d) l))

/-- and from the device's inputs. -/
theorem query_at (I : Ins Ideal) (b : Fin 2) (r d : Fin 512) :
    queryOf I b.val b.isLt (ix2 r d) = ∑ e : Fin 768, ideal (I.x (ix2 (tall b r) e)) * ideal (I.wq (ix2 e d)) := by
  unfold queryOf
  rw [queries_at]
  refine Finset.sum_congr rfl fun e _ => congrArg₂ (· * ·) ?_ ?_
  · exact congrArg I.x (emb_eq _ _ (xInb b.val b.isLt) _ _ fun a => match a with | ⟨0, _⟩ => rfl | ⟨1, _⟩ => Nat.zero_add _)
  · exact congrArg I.wq (emb_eq _ _ inb_S768x512_S768x512_0_0 _ _ fun a => match a with | ⟨0, _⟩ => Nat.zero_add _ | ⟨1, _⟩ => Nat.zero_add _)

/-- The first `n` heads of a batch at an element. -/
theorem sum_at (I : Ins Ideal) (b : Fin 2) (r : Fin 512) (l : Fin 768) (n : ℕ) (hn : n ≤ 8) :
    sumHeads I b.val b.isLt (queryOf I b.val b.isLt) n hn (ix2 r l)
      = ∑ h : Fin n, headIn I b r l ⟨h.val, by omega⟩ := by
  induction n with
  | zero =>
    unfold sumHeads
    pointwise
    rfl
  | succ n ih =>
    rw [sumHeads, head_at, ih (Nat.le_of_succ_le hn), Fin.sum_univ_castSucc (n := n)]
    refine congrArg₂ (fun a b : EReal => a + b) rfl ?_
    unfold headIn headOf
    have hk : ∀ j d, (kM.access (kRect b.val n b.isLt hn)).read (Elt Ideal) I.k (ix3 0 d j) = I.k (ix3 (pack b ⟨n, hn⟩) d j) := fun j d =>
      congrArg I.k (emb_eq _ _ (kInb b.val n b.isLt hn) _ _ fun a => match a with | ⟨0, _⟩ => rfl | ⟨1, _⟩ => Nat.zero_add _ | ⟨2, _⟩ => Nat.zero_add _)
    have hv : ∀ j d, (vM.access (vRect b.val n b.isLt hn)).read (Elt Ideal) I.v (ix3 0 j d) = I.v (ix3 (pack b ⟨n, hn⟩) j d) := fun j d =>
      congrArg I.v (emb_eq _ _ (vInb b.val n b.isLt hn) _ _ fun a => match a with | ⟨0, _⟩ => rfl | ⟨1, _⟩ => Nat.zero_add _ | ⟨2, _⟩ => Nat.zero_add _)
    have ho : ∀ d, (woM.access (woRect n hn)).read (Elt Ideal) I.wo (ix2 d l) = I.wo (ix2 (narrow ⟨n, hn⟩ d) l) := fun d =>
      congrArg I.wo (emb_eq _ _ (woInb n hn) _ _ fun a => match a with | ⟨0, _⟩ => rfl | ⟨1, _⟩ => Nat.zero_add _)
    refine Finset.sum_congr rfl fun d _ => ?_
    rw [ho, funext fun j => funext fun d => hk j d, funext fun j => funext fun d => hv j d, funext fun d => query_at I b r (narrow ⟨n, hn⟩ d)]
    rfl

/-- A batch's store at an element of its rows, -/
theorem put_at (I : Ins Ideal) (b : ℕ) (hb : b < 2) (g : OutB Ideal) (i : S1024x768.Idx) (r : Fin 512) (l : Fin 768)
    (hi : i = (xRect b hb).emb (ix2 r l)) : putBatch I b hb g i = batchOf I b hb (ix2 r l) := by
  rw [hi, putBatch]
  exact put_in (xRect b hb) g _ (ix2 r l)
/-- and at an element of the other batch's. -/
theorem put_else (I : Ins Ideal) (b : ℕ) (hb : b < 2) (g : OutB Ideal) (i : S1024x768.Idx)
    (hi : i ∉ (xRect b hb).set) : putBatch I b hb g i = g i := by
  rw [putBatch]
  exact put_out (xRect b hb) g _ hi

/-- A device's partial output at an element of a batch is that batch's. -/
theorem batch_at (I : Ins Ideal) (b : Fin 2) (r : Fin 512) (l : Fin 768) :
    partialOf I (ix2 (tall b r) l) = batchOf I b.val b.isLt (ix2 r l) := by
  have e : ix2 (tall b r) l = (xRect b.val b.isLt).emb (ix2 r l) :=
    (emb_eq _ _ (xInb b.val b.isLt) _ _ fun a => match a with | ⟨0, _⟩ => rfl | ⟨1, _⟩ => Nat.zero_add _).symm
  rw [partialOf]
  obtain ⟨n, hn⟩ := b
  obtain rfl | rfl : n = 0 ∨ n = 1 := by omega
  · rw [put_else, put_at _ _ _ _ _ _ _ e]
    rw [x_mem]
    intro h
    have h := h.1
    have hr := r.isLt
    exact absurd h (by show ¬ 512 * 1 ≤ 512 * 0 + r.val; omega)
  · rw [put_at _ _ _ _ _ _ _ e]

/-- A device's partial result at an element. -/
theorem partial_at (I : Ins Ideal) (b : Fin 2) (r : Fin 512) (l : Fin 768) :
    ideal (partialOf I (ix2 (tall b r) l)) = ∑ h, headIn I b r l h :=
  (batch_at I b r l).trans (sum_at I b r l 8 (le_refl 8))

end Cert.Butterfly

end
-- ==== Proof.Inputs.lean ====
/- What the kernel is called on, read at an element: each of its five operands as an element of the launch's arrays. -/
module

public import proofs.«01_k».proof.Proof.Local
public import proofs.«01_k».proof.Proof.Region
public import Idealize.ShloMosaic.Lib.StableHlo.ReadAt

@[expose] public section

noncomputable section

namespace Cert.Butterfly

open Idealize.ShloMosaic Idealize.ShloMosaic.TcCoe
open Idealize.SL Idealize.SL.Sem
open Cert.KernelIdeal Cert.KernelIdeal.Gen

variable (m : (ℓ : Loc nD τ sig) → Buf (Elt Ideal) ℓ) (c : Dev nD)

/-- Column `d` of head `h` of device `c` among all devices' columns. -/
abbrev mine (c : Dev nD) (h : Fin 8) (d : Fin 64) : Fin 16384 := ⟨512 * c.val + 64 * h.val + d.val, by have : c.val < 32 := c.isLt; omega⟩

/-- The kernel's activations are the launch's, its batches stacked. -/
theorem x_at (b : Fin 2) (r : Fin 512) (e : Fin 768) :
    (insOf m c).x (ix2 (tall b r) e) = m ((c : Thread nD τ).loc main_arg0) (ix3 b r e) := by
  show V1 m c main_v15 (ix2 (tall b r) e) = _
  unfold V1
  after_reads_at
  have hr := r.isLt
  exact congrArg (m ((c : Thread nD τ).loc main_arg0)) (congrArg₂ (fun b r => ix3 b r e) (Fin.ext (show (512 * b.val + r.val) / 512 = b.val by omega)) (Fin.ext (show (512 * b.val + r.val) % 512 = r.val by omega)))

/-- The kernel's keys are the launch's, each head's transposed. -/
theorem k_at (b : Fin 2) (h : Fin 8) (j : Fin 512) (d : Fin 64) :
    (insOf m c).k (ix3 (pack b h) d j) = m ((c : Thread nD τ).loc main_arg2) (ix4 b j h d) := by
  show V1 m c main_v17 (ix3 (pack b h) d j) = _
  unfold V1
  after_reads_at
  have hh := h.isLt
  exact congrArg (m ((c : Thread nD τ).loc main_arg2)) (congrArg₂ (fun b h => ix4 b j h d) (Fin.ext (show (8 * b.val + h.val) / 8 = b.val by omega)) (Fin.ext (show (8 * b.val + h.val) % 8 = h.val by omega)))

/-- The kernel's values are the launch's, head by head. -/
theorem v_at (b : Fin 2) (h : Fin 8) (j : Fin 512) (d : Fin 64) :
    (insOf m c).v (ix3 (pack b h) j d) = m ((c : Thread nD τ).loc main_arg3) (ix4 b j h d) := by
  show V1 m c main_v19 (ix3 (pack b h) j d) = _
  unfold V1
  after_reads_at
  have hh := h.isLt
  exact congrArg (m ((c : Thread nD τ).loc main_arg3)) (congrArg₂ (fun b h => ix4 b j h d) (Fin.ext (show (8 * b.val + h.val) / 8 = b.val by omega)) (Fin.ext (show (8 * b.val + h.val) % 8 = h.val by omega)))

/-- The word of `512 * c` reads back as that number. -/
theorem start_int : (BitVec.ofNat 32 (512 * c.val)).toInt = ((512 * c.val : Nat) : Int) := by
  revert c; decide +kernel

/-- The first column of device `c`'s slice of the query weights, as the host computes it. -/
theorem cols_at (V : Valuation τ sig (Elt Ideal)) :
    (StableHlo.upto (hostOps0 c) V 14 (Proc.devRef .tc main_v8) : IVec S_ 32) (Shape.Idx.first h_S_) = BitVec.ofNat 32 (512 * c.val) := by
  after_reads_at
  revert c; decide +kernel

/-- The first row of device `c`'s slice of the output weights, as the host computes it. -/
theorem rows_at (V : Valuation τ sig (Elt Ideal)) :
    (StableHlo.upto (hostOps0 c) V 23 (Proc.devRef .tc main_v13) : IVec S_ 32) (Shape.Idx.first h_S_) = BitVec.ofNat 32 (512 * c.val) := by
  after_reads_at
  revert c; decide +kernel

/-- The slice of the query weights starts at row zero. -/
theorem zero_col (V : Valuation τ sig (Elt Ideal)) :
    (StableHlo.upto (hostOps0 c) V 14 (Proc.devRef .tc main_c_4) : IVec S_ 32) (Shape.Idx.first h_S_) = 0#32 := by
  after_reads_at

/-- The slice of the output weights starts at column zero. -/
theorem zero_row (V : Valuation τ sig (Elt Ideal)) :
    (StableHlo.upto (hostOps0 c) V 23 (Proc.devRef .tc main_c_8) : IVec S_ 32) (Shape.Idx.first h_S_) = 0#32 := by
  after_reads_at

/-- The kernel's query weights are the device's columns of the launch's. -/
theorem wq_at (e : Fin 768) (h : Fin 8) (d : Fin 64) :
    (insOf m c).wq (ix2 e (narrow h d)) = m ((c : Thread nD τ).loc main_arg1) (ix2 e (mine c h d)) := by
  show V1 m c main_v9 (ix2 e (narrow h d)) = _
  unfold V1
  after_reads_at
  refine congrArg (m ((c : Thread nD τ).loc main_arg1)) (congrArg₂ ix2 (Fin.ext ?_) (Fin.ext ?_))
  · refine (congrArg (· + e.val) (Host.clampedStart_of_le _ _ 0 0 ?_ (by decide))).trans (Nat.zero_add _)
    exact congrArg BitVec.toInt (zero_col c (V0 m c))
  · have hc : c.val < 32 := c.isLt
    refine (congrArg (· + (64 * h.val + d.val)) (Host.clampedStart_of_le _ _ 1 (512 * c.val) ?_ ?_)).trans (Nat.add_assoc _ _ _).symm
    · exact (congrArg BitVec.toInt (cols_at c (V0 m c))).trans (start_int c)
    · show 512 * c.val + 512 ≤ 16384
      omega

/-- The kernel's output weights are the device's rows of the launch's. -/
theorem wo_at (l : Fin 768) (h : Fin 8) (d : Fin 64) :
    (insOf m c).wo (ix2 (narrow h d) l) = m ((c : Thread nD τ).loc main_arg4) (ix2 (mine c h d) l) := by
  show V1 m c main_v14 (ix2 (narrow h d) l) = _
  unfold V1
  after_reads_at
  refine congrArg (m ((c : Thread nD τ).loc main_arg4)) (congrArg₂ ix2 (Fin.ext ?_) (Fin.ext ?_))
  · have hc : c.val < 32 := c.isLt
    refine (congrArg (· + (64 * h.val + d.val)) (Host.clampedStart_of_le _ _ 0 (512 * c.val) ?_ ?_)).trans (Nat.add_assoc _ _ _).symm
    · exact (congrArg BitVec.toInt (rows_at c (V0 m c))).trans (start_int c)
    · show 512 * c.val + 512 ≤ 16384
      omega
  · refine (congrArg (· + l.val) (Host.clampedStart_of_le _ _ 1 0 ?_ (by decide))).trans (Nat.zero_add _)
    exact congrArg BitVec.toInt (zero_row c (V0 m c))

/-- The program's result is the kernel's, its batches apart. -/
theorem end_at (b : Fin 2) (r : Fin 512) (l : Fin 768) :
    V3 m (outs m) c main_v21 (ix3 b r l) = result m c (ix2 (tall b r) l) := by
  have e : V3 m (outs m) c main_v21 (ix3 b r l) = V2 m (outs m) c main_v20 (ix2 (tall b r) l) := by
    unfold V3
    after_reads_at
    exact congrArg (V2 m (outs m) c (Proc.devRef .tc main_v20)) (congrArg (ix2 · l) (Fin.ext (show b.val * 512 + r.val = 512 * b.val + r.val by omega)))
  exact e.trans (congrFun (V2_result m c) _)

end Cert.Butterfly

end
-- ==== Proof.RefValue.lean ====
/- The reference over the extended reals, read at an element: the sum over all 256 heads of what each contributes. -/
module

public import proofs.«01_k».proof.Proof.Attention
public import proofs.«01_k».proof.Proof.Gen.ReferenceIdeal.Run

@[expose] public section

noncomputable section

namespace Cert.Butterfly.Ref

open Idealize.ShloMosaic Idealize.ShloMosaic.TcCoe
open Idealize.SL Idealize.SL.Sem
open Cert.ReferenceIdeal Cert.ReferenceIdeal.Gen

/-! ## The mask -/

/-- The number of each position's block of 64, as the reference computes it. -/
def blk : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))
/-- The divisor of the remainder. -/
def four : IVec S_ 32 :=
  select (cmpi .eq (id (constantI S_ 32 4#32)) (constantI S_ 32 0#32)) (constantI S_ 32 1#32) (id (constantI S_ 32 4#32))
/-- The remainder of `x` by it, of the divisor's sign. -/
def modulo (s : Shape) (h : S_.BroadcastsInDim s ![]) (x : IVec s 32) : IVec s 32 :=
  select (andi (cmpi .ne (cmpi .slt (Host.remsi x (broadcastInDim s ![] h four)) (broadcastInDim s ![] h (constantI S_ 32 0#32)))
        (broadcastInDim s ![] h (cmpi .slt four (constantI S_ 32 0#32))))
      (cmpi .ne (Host.remsi x (broadcastInDim s ![] h four)) (broadcastInDim s ![] h (constantI S_ 32 0#32))))
    (addi (Host.remsi x (broadcastInDim s ![] h four)) (broadcastInDim s ![] h four))
    (Host.remsi x (broadcastInDim s ![] h four))
abbrev rowBlk : IVec S512x1 32 := broadcastInDim S512x1 ![0] bcast_S512_S512x1_0 blk
abbrev colBlk : IVec S1x512 32 := broadcastInDim S1x512 ![1] bcast_S512_S1x512_1 blk
/-- Which positions see which, as the reference computes it. -/
def mask : IVec S512x512 1 :=
  ori (cmpi .eq (broadcastInDim S512x512 ![0, 1] bcast_S512x1_S512x512_0_1 rowBlk) (broadcastInDim S512x512 ![0, 1] bcast_S1x512_S512x512_0_1 colBlk))
    (cmpi .eq (broadcastInDim S512x512 ![0, 1] bcast_S1x512_S512x512_0_1 (modulo S1x512 bcast_S_S1x512 colBlk))
      (broadcastInDim S512x512 ![0, 1] bcast_S512x1_S512x512_0_1 (modulo S512x1 bcast_S_S512x1 rowBlk)))
/-- Which positions see any. -/
def keep : IVec S512 1 := Host.reduce IntOp.ori mask (constantI S_ 1 0#1) reducesTo_S512x512_S512_d1 h_S_

/-- The block of 64 a position is in; -/
theorem blk_at : ∀ i : Fin 512, blk (ix1 i) = BitVec.ofNat 32 (i.val / 64) := by decide +kernel
/-- its remainder by four, as a row -/
theorem row_mod : ∀ i : Fin 512, modulo S512x1 bcast_S_S512x1 rowBlk (ix2 i 0) = BitVec.ofNat 32 (i.val / 64 % 4) := by decide +kernel
/-- and as a column. -/
theorem col_mod : ∀ i : Fin 512, modulo S1x512 bcast_S_S1x512 colBlk (ix2 0 i) = BitVec.ofNat 32 (i.val / 64 % 4) := by decide +kernel

/-- The same block or the same remainder is the same remainder. -/
theorem mask_words : ∀ a b : Fin 8, IntOp.ori (IntOp.cmpi .eq (BitVec.ofNat 32 a.val) (BitVec.ofNat 32 b.val))
    (IntOp.cmpi .eq (BitVec.ofNat 32 (b.val % 4)) (BitVec.ofNat 32 (a.val % 4))) = if a.val % 4 = b.val % 4 then 1#1 else 0#1 := by decide +kernel

/-- The mask at a row and a column. -/
theorem mask_at (r j : Fin 512) : mask (ix2 r j) = if Sees r j then 1#1 else 0#1 := by
  have h : mask (ix2 r j) = IntOp.ori (IntOp.cmpi .eq (blk (ix1 r)) (blk (ix1 j)))
      (IntOp.cmpi .eq (modulo S1x512 bcast_S_S1x512 colBlk (ix2 0 j)) (modulo S512x1 bcast_S_S512x1 rowBlk (ix2 r 0))) := by
    unfold mask
    pointwise
  rw [h, blk_at, blk_at, row_mod, col_mod]
  have hr := r.isLt
  have hj := j.isLt
  exact mask_words ⟨r.val / 64, by omega⟩ ⟨j.val / 64, by omega⟩

/-- A disjunction with a true part is true. -/
theorem fold_or_one (f : Fin 512 → BitVec 1) (j : Fin 512) (h : f j = 1#1) (b : BitVec 1) :
    (Finset.univ : Finset (Fin 512)).fold IntOp.ori b f = 1#1 := by
  rw [← Finset.insert_erase (Finset.mem_univ j), Finset.fold_insert (Finset.notMem_erase _ _), h]
  exact (by decide : ∀ x : BitVec 1, IntOp.ori 1#1 x = 1#1) _

/-- Every position sees one: itself. -/
theorem keep_at (r : Fin 512) : keep (ix1 r) = 1#1 := by
  unfold keep
  pointwise
  exact fold_or_one _ r (by rw [mask_at]; exact if_pos rfl) _

/-! ## The floats -/

variable (x : FVec Ideal S2x512x768 .f32) (wq : FVec Ideal S768x16384 .f32) (k v : FVec Ideal S2x512x256x64 .f32) (wo : FVec Ideal S16384x768 .f32)

/-- The masked, scaled scores. -/
def scores : FVec Ideal S2x256x512x512 .f32 :=
  select (broadcastInDim S2x256x512x512 ![0, 1, 2, 3] bcast_S1x1x512x512_S2x256x512x512_0_1_2_3
      (broadcastInDim S1x1x512x512 ![2, 3] bcast_S512x512_S1x1x512x512_2_3 mask))
    (mulf (Host.dotGeneral dot_S2x512x256x64_S2x512x256x64_S2x256x512x512_3_3_1_1_02_02 none
        (shapeCast S2x512x256x64 (Host.dotGeneral dot_S2x512x768_S768x16384_S2x512x16384_2_0_01_1_n_n none x wq) shapeCasts_S2x512x16384_S2x512x256x64) k)
      (broadcastInDim S2x256x512x512 ![] bcast_S_S2x256x512x512 (constant S_ .f32 0x3E000000#32)))
    (broadcastInDim S2x256x512x512 ![] bcast_S_S2x256x512x512 (id (constant S_ .f32 0xCE6E6B28#32)))
/-- The exponentials of `s` below its rows' maxima. -/
def exps (s : FVec Ideal S2x256x512x512 .f32) : FVec Ideal S2x256x512x512 .f32 :=
  Host.exp (subf s (broadcastInDim S2x256x512x512 ![0, 1, 2, 3] bcast_S2x256x512x1_S2x256x512x512_0_1_2_3
    (broadcastInDim S2x256x512x1 ![0, 1, 2] bcast_S2x256x512_S2x256x512x1_0_1_2
      (Host.reduce FloatOps.maximumf s (constant S_ .f32 0xFF800000#32) reducesTo_S2x256x512x512_S2x256x512_d3 h_S_))))
/-- The weights. -/
def weights (p : FVec Ideal S2x256x512x512 .f32) : FVec Ideal S2x256x512x512 .f32 :=
  select (broadcastInDim S2x256x512x512 ![0, 1, 2, 3] bcast_S1x1x512x1_S2x256x512x512_0_1_2_3
      (broadcastInDim S1x1x512x1 ![2] bcast_S512_S1x1x512x1_2 keep))
    (Host.divf p (broadcastInDim S2x256x512x512 ![0, 1, 2, 3] bcast_S2x256x512x1_S2x256x512x512_0_1_2_3
      (select (broadcastInDim S2x256x512x1 ![0, 1, 2, 3] bcast_S1x1x512x1_S2x256x512x1_0_1_2_3 (broadcastInDim S1x1x512x1 ![2] bcast_S512_S1x1x512x1_2 keep))
        (broadcastInDim S2x256x512x1 ![0, 1, 2] bcast_S2x256x512_S2x256x512x1_0_1_2
          (Host.reduceAdd p (constant S_ .f32 0x00000000#32) reducesTo_S2x256x512x512_S2x256x512_d3 h_S_))
        (broadcastInDim S2x256x512x1 ![] bcast_S_S2x256x512x1 (id (constant S_ .f32 0x3F800000#32))))))
    (broadcastInDim S2x256x512x512 ![] bcast_S_S2x256x512x512 (id (constant S_ .f32 0x00000000#32)))
/-- The context. -/
def context (w : FVec Ideal S2x256x512x512 .f32) : FVec Ideal S2x256x64x512 .f32 :=
  Host.dotGeneral dot_S2x512x256x64_S2x256x512x512_S2x256x64x512_1_3_3_2_02_01 none v w
/-- The result. -/
def output (t : FVec Ideal S2x256x64x512 .f32) : FVec Ideal S2x512x768 .f32 :=
  Host.dotGeneral dot_S2x512x16384_S16384x768_S2x512x768_2_0_01_1_n_n none
    (shapeCast S2x512x16384 (transpose S2x512x256x64 [0, 3, 1, 2] t transposes_S2x256x64x512_S2x512x256x64_0_3_1_2) shapeCasts_S2x512x256x64_S2x512x16384) wo

/-- The result of the reference is its stages, one after the other. -/
theorem out_eq (m : (ℓ : Loc nD τ sig) → Buf (Elt Ideal) ℓ) (c : Dev nD) :
    Value.res_main_v39 (F := Ideal) m c = output (m ((c.tc : Thread nD τ).loc main_arg4))
      (context (m ((c.tc : Thread nD τ).loc main_arg3)) (weights (exps (scores (m ((c.tc : Thread nD τ).loc main_arg0))
        (m ((c.tc : Thread nD τ).loc main_arg1)) (m ((c.tc : Thread nD τ).loc main_arg2)))))) := rfl

/-- Column `d` of head `h` among all heads' columns. -/
abbrev wide (h : Fin 256) (d : Fin 64) : Fin 16384 := ⟨h.val * 64 + d.val, by omega⟩

/-- The scores at an element; -/
theorem scores_at (b : Fin 2) (h : Fin 256) (r j : Fin 512) : scores x wq k (ix4 b h r j)
    = scoresOf r (fun d => ∑ e, x (ix3 b r e) * wq (ix2 e (wide h d))) (fun j d => k (ix4 b j h d)) j := by
  unfold scores scoresOf
  pointwise [dot_S2x512x256x64_S2x512x256x64_S2x256x512x512_3_3_1_1_02_02, dot_S2x512x768_S768x16384_S2x512x16384_2_0_01_1_n_n]
  rw [mask_at]
  by_cases hs : Sees r j
  · rw [if_pos hs, if_pos hs]; rfl
  · rw [if_neg hs, if_neg hs]; rfl

/-- the exponentials; -/
theorem exps_at (s : FVec Ideal S2x256x512x512 .f32) (b : Fin 2) (h : Fin 256) (r j : Fin 512) : exps s (ix4 b h r j)
    = expsOf (fun j => s (ix4 b h r j)) j := by
  unfold exps expsOf
  pointwise

/-- the weights, the guard against rows that see nothing never taken; -/
theorem weights_at (s : FVec Ideal S2x256x512x512 .f32) (b : Fin 2) (h : Fin 256) (r j : Fin 512) : weights (exps s) (ix4 b h r j)
    = weightsOf (fun j => s (ix4 b h r j)) j := by
  unfold weights weightsOf
  pointwise
  rw [keep_at]
  refine Eq.trans (b := Ideal.div (exps s (ix4 b h r j)) (∑ x, exps s (ix4 b h r x))) rfl ?_
  rw [exps_at, Finset.sum_congr rfl fun x _ => exps_at s b h r x]

/-- the context; -/
theorem context_at (w : FVec Ideal S2x256x512x512 .f32) (b : Fin 2) (h : Fin 256) (r : Fin 512) (d : Fin 64) :
    context v w (ix4 b h d r) = ∑ j, w (ix4 b h r j) * v (ix4 b j h d) := by
  unfold context
  pointwise [dot_S2x512x256x64_S2x256x512x512_S2x256x64x512_1_3_3_2_02_01]
  exact Finset.sum_congr rfl fun j _ => mul_comm _ _

/-- the output, as a sum over heads. -/
theorem output_at (t : FVec Ideal S2x256x64x512 .f32) (b : Fin 2) (r : Fin 512) (l : Fin 768) :
    output wo t (ix3 b r l) = ∑ h : Fin 256, ∑ d : Fin 64, t (ix4 b h d r) * wo (ix2 (wide h d) l) := by
  unfold output
  pointwise [dot_S2x512x16384_S16384x768_S2x512x768_2_0_01_1_n_n]
  rw [sum_pairs (n := 256) (k := 64) (N := 16384) rfl]
  refine Finset.sum_congr rfl fun h _ => Finset.sum_congr rfl fun d _ => ?_
  have hd := d.isLt
  refine congrArg₂ (· * ·) (congrArg t ?_) rfl
  exact congrArg₂ (fun h d => ix4 b h d r) (Fin.ext (show (h.val * 64 + d.val) / 64 = h.val by omega)) (Fin.ext (show (h.val * 64 + d.val) % 64 = d.val by omega))

/-- The reference's result, as extended reals. -/
def res (m : (ℓ : Loc nD τ sig) → Buf (Elt Ideal) ℓ) (c : Dev nD) : S2x512x768.Idx → EReal := Value.res_main_v39 (F := Ideal) m c

/-- The reference's result at an element. -/
theorem out_at (m : (ℓ : Loc nD τ sig) → Buf (Elt Ideal) ℓ) (c : Dev nD)
    (hx : m ((c.tc : Thread nD τ).loc main_arg0) = x) (hq : m ((c.tc : Thread nD τ).loc main_arg1) = wq)
    (hk : m ((c.tc : Thread nD τ).loc main_arg2) = k) (hv : m ((c.tc : Thread nD τ).loc main_arg3) = v)
    (ho : m ((c.tc : Thread nD τ).loc main_arg4) = wo) (b : Fin 2) (r : Fin 512) (l : Fin 768) :
    res m c (ix3 b r l)
      = ∑ h : Fin 256, headOf r (fun e => x (ix3 b r e)) (fun e d => wq (ix2 e (wide h d))) (fun j d => k (ix4 b j h d))
          (fun j d => v (ix4 b j h d)) (fun d => wo (ix2 (wide h d) l)) := by
  have e : res m c = output wo (context v (weights (exps (scores x wq k)))) := by
    subst hx hq hk hv ho; exact out_eq m c
  rw [e, output_at]
  refine Finset.sum_congr rfl fun h _ => ?_
  unfold headOf
  refine Finset.sum_congr rfl fun d _ => ?_
  rw [context_at]
  unfold ctxOf
  have hw : ∀ j, weights (exps (scores x wq k)) (ix4 b h r j)
      = weightsOf (scoresOf r (fun d => ∑ e, x (ix3 b r e) * wq (ix2 e (wide h d))) (fun j d => k (ix4 b j h d))) j := fun j => by
    rw [weights_at, funext fun j => scores_at x wq k b h r j]
  rw [Finset.sum_congr rfl fun j _ => by rw [hw j]]

end Cert.Butterfly.Ref

end
-- ==== Proof.Agree.lean ====
/- The kernel and the reference agree at the ideal floats: every device's result is the reference's, element by element, and
   with the two runs, the claim. -/
module

public import proofs.«01_k».proof.Defs
public import proofs.«01_k».proof.Proof.AllReduce
public import proofs.«01_k».proof.Proof.Inputs
public import proofs.«01_k».proof.Proof.RefValue
public import proofs.«01_k».proof.Proof.Launch
public import proofs.«01_k».proof.Proof.Gen.ReferenceIdeal.Run

@[expose] public section

noncomputable section

namespace Cert.Butterfly

open Idealize.ShloMosaic Idealize.ShloMosaic.TcCoe
open Idealize.SL Idealize.SL.Sem
open Cert.KernelIdeal Cert.KernelIdeal.Gen

/-- Head `h` of device `c` among all the heads. -/
abbrev among (c : Fin 32) (h : Fin 8) : Fin 256 := ⟨c.val * 8 + h.val, by omega⟩

/-- A device's block of the keys or the values, at an element of the whole array. -/
theorem block_at {α : Type} (v : (⟨4, ![2, 512, 256, 64]⟩ : Shape).Idx → α) (c : Fin 32) (b : Fin 2) (j : Fin 512) (h : Fin 8) (d : Fin 64) :
    Layout.block ⟨4, ![2, 512, 8, 64]⟩ ⟨4, ![2, 512, 256, 64]⟩ 2 32 c v (by decide) (ix4 b j h d) = v (ix4 b j (among c h) d) :=
  congrArg v (funext fun a => match a with | 0 => rfl | 1 => rfl | 2 => rfl | 3 => rfl)

/-- The columns of a device's head are those of that head among all. -/
theorem mine_eq (c : Fin 32) (h : Fin 8) (d : Fin 64) : mine c h d = Ref.wide (among c h) d :=
  Fin.ext (show 512 * c.val + 64 * h.val + d.val = (c.val * 8 + h.val) * 64 + d.val by omega)

variable (m : (ℓ : Loc nD τ sig) → Buf (Elt Ideal) ℓ)
  (m' : (ℓ : Loc Cert.ReferenceIdeal.nD Cert.ReferenceIdeal.τ Cert.ReferenceIdeal.sig) → Buf (Elt Ideal) ℓ)
  (x : FVec Ideal S2x512x768 .f32) (wq : FVec Ideal S768x16384 .f32)
  (k v : FVec Ideal ⟨4, ![2, 512, 256, 64]⟩ .f32) (wo : FVec Ideal S16384x768 .f32)

/-- What every device's memory holds at the launch: the activations and the weights whole, its own heads' keys and values. -/
def Holds : Prop := ∀ c : Dev nD,
  m ((c : Thread nD τ).loc main_arg0) = x ∧ m ((c : Thread nD τ).loc main_arg1) = wq
  ∧ m ((c : Thread nD τ).loc main_arg2) = Layout.block ⟨4, ![2, 512, 8, 64]⟩ ⟨4, ![2, 512, 256, 64]⟩ 2 32 c k
  ∧ m ((c : Thread nD τ).loc main_arg3) = Layout.block ⟨4, ![2, 512, 8, 64]⟩ ⟨4, ![2, 512, 256, 64]⟩ 2 32 c v
  ∧ m ((c : Thread nD τ).loc main_arg4) = wo

/-- A device's head is that head among all, computed from the whole arrays. -/
theorem device_head (H : Holds m x wq k v wo) (c : Dev nD) (b : Fin 2) (r : Fin 512) (l : Fin 768) (h : Fin 8) :
    headIn (insOf m c) b r l h = headOf r (fun e => x (ix3 b r e)) (fun e d => wq (ix2 e (Ref.wide (among c h) d)))
      (fun j d => k (ix4 b j (among c h) d)) (fun j d => v (ix4 b j (among c h) d)) (fun d => wo (ix2 (Ref.wide (among c h) d) l)) := by
  obtain ⟨h0, h1, h2, h3, h4⟩ := H c
  have e0 : ∀ e, (insOf m c).x (ix2 (tall b r) e) = x (ix3 b r e) := fun e =>
    (x_at m c b r e).trans (congrFun h0 _)
  have e1 : ∀ e d, (insOf m c).wq (ix2 e (narrow h d)) = wq (ix2 e (Ref.wide (among c h) d)) := fun e d =>
    ((wq_at m c e h d).trans (congrFun h1 _)).trans (congrArg (fun t => wq (ix2 e t)) (mine_eq c h d))
  have e2 : ∀ j d, (insOf m c).k (ix3 (pack b h) d j) = k (ix4 b j (among c h) d) := fun j d =>
    ((k_at m c b h j d).trans (congrFun h2 _)).trans (block_at k c b j h d)
  have e3 : ∀ j d, (insOf m c).v (ix3 (pack b h) j d) = v (ix4 b j (among c h) d) := fun j d =>
    ((v_at m c b h j d).trans (congrFun h3 _)).trans (block_at v c b j h d)
  have e4 : ∀ d, (insOf m c).wo (ix2 (narrow h d) l) = wo (ix2 (Ref.wide (among c h) d) l) := fun d =>
    ((wo_at m c l h d).trans (congrFun h4 _)).trans (congrArg (fun t => wo (ix2 t l)) (mine_eq c h d))
  unfold headIn
  simp only [e0, e1, e2, e3, e4]

/-- Every device's result at an element: the sum of all the heads. -/
theorem device_sum (H : Holds m x wq k v wo) (c : Dev nD) (b : Fin 2) (r : Fin 512) (l : Fin 768) :
    elem (result m c) (ix2 (tall b r) l) = ∑ h : Fin 256, headOf r (fun e => x (ix3 b r e)) (fun e d => wq (ix2 e (Ref.wide h d)))
      (fun j d => k (ix4 b j h d)) (fun j d => v (ix4 b j h d)) (fun d => wo (ix2 (Ref.wide h d) l)) := by
  refine (result_sum m c _).trans (Eq.trans ?_ (sum_pairs (n := 32) (k := 8) (N := 256) rfl _).symm)
  refine Finset.sum_congr rfl fun d _ => (partial_at (insOf m d) b r l).trans ?_
  exact Finset.sum_congr rfl fun h _ => device_head m x wq k v wo H d b r l h

/-- Every device's result is the reference's. -/
theorem ends_eq (H : Holds m x wq k v wo) (c' : Dev Cert.ReferenceIdeal.nD)
    (hx : m' ((c'.tc : Thread _ Cert.ReferenceIdeal.τ).loc Cert.ReferenceIdeal.main_arg0) = x)
    (hq : m' ((c'.tc : Thread _ Cert.ReferenceIdeal.τ).loc Cert.ReferenceIdeal.main_arg1) = wq)
    (hk : m' ((c'.tc : Thread _ Cert.ReferenceIdeal.τ).loc Cert.ReferenceIdeal.main_arg2) = k)
    (hv : m' ((c'.tc : Thread _ Cert.ReferenceIdeal.τ).loc Cert.ReferenceIdeal.main_arg3) = v)
    (ho : m' ((c'.tc : Thread _ Cert.ReferenceIdeal.τ).loc Cert.ReferenceIdeal.main_arg4) = wo) (c : Dev nD) :
    V3 m (outs m) c main_v21 = Ref.res m' c' := by
  funext i
  obtain ⟨b, r, l, rfl⟩ : ∃ b r l, i = ix3 b r l := ⟨i 0, i 1, i 2, eq_ix3 i⟩
  exact ((end_at m c b r l).trans (device_sum m x wq k v wo H c b r l)).trans (Ref.out_at x wq k v wo m' c' hx hq hk hv ho b r l).symm

/-- The claim: on arguments placed so, both run, every device's result ends holding the reference's, and all arguments are unchanged. -/
theorem agree : Cert.algebraic_KernelIdeal_ReferenceIdeal := fun m g m' g' _ H =>
  ⟨Ref.res m' 0,
    (θ_run Cert.KernelIdeal.defs _ _).mono
      (fun _ h c => ⟨(h.1 c).1.trans (ends_eq m m' _ _ _ _ _ H 0 rfl rfl rfl rfl rfl c), (h.1 c).2⟩) (run_main (F := Ideal) m g),
    (θ_run Cert.ReferenceIdeal.defs _ _).mono (fun _ h => h 0) (Cert.ReferenceIdeal.Value.run (F := Ideal) m' g')⟩

end Cert.Butterfly

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Butterfly.frame_kernel, Cert.Butterfly.frame_ideal, Cert.Butterfly.frame_reference, trivial, Cert.Butterfly.agree⟩

end Cert.Proof

end
